-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8192x2048 : Shape := ⟨2, ![8192, 2048]⟩
abbrev S256x2048 : Shape := ⟨2, ![256, 2048]⟩
abbrev S8192x256 : Shape := ⟨2, ![8192, 256]⟩
abbrev S8192x256x256 : Shape := ⟨3, ![8192, 256, 256]⟩
abbrev S_ : Shape := ⟨0, ![]⟩

class Facts : Prop where
  bcast_S8192x256_S8192x256x256_0_1 : S8192x256.BroadcastsInDim S8192x256x256 (![0, 1] : Fin 2 → Fin S8192x256x256.rank)
  bcast_S8192x256_S8192x256x256_0_2 : S8192x256.BroadcastsInDim S8192x256x256 (![0, 2] : Fin 2 → Fin S8192x256x256.rank)
  bcast_S_S8192x256x256 : S_.BroadcastsInDim S8192x256x256 (![] : Fin 0 → Fin S8192x256x256.rank)
  dot_S8192x2048_S256x2048_S8192x256_1_1_0_0_n_n_wf : DotDims.WF S8192x2048 S256x2048 S8192x256 [1] [1] [0] [0] [] []

variable [Facts]

def dot_S8192x2048_S256x2048_S8192x256_1_1_0_0_n_n : DotDims S8192x2048 S256x2048 S8192x256 where
  lhsContracting := [1]
  rhsContracting := [1]
  lhsNonContracting := [0]
  rhsNonContracting := [0]
  lhsBatch := []
  rhsBatch := []
  wf := dot_S8192x2048_S256x2048_S8192x256_1_1_0_0_n_n_wf
def fn {F : FTy → Type} [FloatOps F] (main_arg0 : FVec F S8192x2048 .f32) (main_arg1 : FVec F S256x2048 .f32) : IVec S8192x256x256 1 :=
  let main_v0 : FVec F S8192x256 .f32 := (fun l r => Host.dotGeneral dot_S8192x2048_S256x2048_S8192x256_1_1_0_0_n_n none l r) main_arg0 main_arg1
  let main_v1 : FVec F S8192x256x256 .f32 := broadcastInDim S8192x256x256 ![0, 1] bcast_S8192x256_S8192x256x256_0_1 main_v0
  let main_v2 : FVec F S8192x256x256 .f32 := broadcastInDim S8192x256x256 ![0, 2] bcast_S8192x256_S8192x256x256_0_2 main_v0
  let main_v3 : IVec S8192x256x256 32 := iotaInDim S8192x256x256 32 1
  let main_v4 : IVec S8192x256x256 32 := iotaInDim S8192x256x256 32 2
  let main_v5 : IVec S8192x256x256 1 := cmpi .eq main_v3 main_v4
  let main_v6 : FVec F S8192x256x256 .f32 := Host.absf main_v1
  let main_cst : FVec F S_ .f32 := constant S_ .f32 0x7F800000#32
  let main_v7 : FVec F S8192x256x256 .f32 := broadcastInDim S8192x256x256 ![] bcast_S_S8192x256x256 main_cst
  let main_v8 : IVec S8192x256x256 1 := cmpf .olt main_v6 main_v7
  let main_v9 : IVec S8192x256x256 1 := cmpf .une main_v1 main_v2
  let main_v10 : IVec S8192x256x256 1 := ori main_v5 main_v9
  let main_v11 : IVec S8192x256x256 1 := andi main_v8 main_v10
  main_v11
-- ==== Kernel.lean ====
abbrev S8192x2048 : Shape := ⟨2, ![8192, 2048]⟩
abbrev S256x2048 : Shape := ⟨2, ![256, 2048]⟩
abbrev S256 : Shape := ⟨1, ![256]⟩
abbrev S_ : Shape := ⟨0, ![]⟩
abbrev S256x1 : Shape := ⟨2, ![256, 1]⟩
abbrev S2048x256 : Shape := ⟨2, ![2048, 256]⟩
abbrev S8192x8 : Shape := ⟨2, ![8192, 8]⟩
abbrev S1x1 : Shape := ⟨2, ![1, 1]⟩
abbrev S256x8 : Shape := ⟨2, ![256, 8]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S128 : Shape := ⟨1, ![128]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 15
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S256, .i32⟩
  | .hbm, ⟨3, _⟩ => ⟨S256, .i1⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S256, .i32⟩
  | .hbm, ⟨8, _⟩ => ⟨S256x1, .i32⟩
  | .hbm, ⟨9, _⟩ => ⟨S256x2048, .f32⟩
  | .hbm, ⟨10, _⟩ => ⟨S2048x256, .f32⟩
  | .hbm, ⟨11, _⟩ => ⟨S8192x8, .i32⟩
  | .hbm, ⟨12, _⟩ => ⟨S8192x8, .f32⟩
  | .hbm, ⟨13, _⟩ => ⟨S1x1, .f32⟩
  | .hbm, ⟨14, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S256x8, .i32⟩
  | .local _ .vmem, ⟨4, _⟩ => ⟨S256x8, .i32⟩
  | .local _ .vmem, ⟨5, _⟩ => ⟨S256x8, .f32⟩
  | .local _ .vmem, ⟨6, _⟩ => ⟨S256x8, .f32⟩
  | .local _ .vmem, ⟨7, _⟩ => ⟨S1x1, .f32⟩
  | .local _ .vmem, ⟨8, _⟩ => ⟨S1x256, .f32⟩
  | .local _ .vmem, ⟨9, _⟩ => ⟨S1x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_call0_v0_2 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v280 : BitVec 1 := Scalar.cmpi .eq arg0 c31_i32
  let v281 : BitVec 32 := Scalar.extui v280
  let c0_i32_101 : BitVec 32 := 0#32
  let v282 : BitVec 1 := Scalar.cmpi .ne v281 c0_i32_101
  v282

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S256x2048 : Shape := ⟨2, ![256, 2048]⟩
abbrev S2048x256 : Shape := ⟨2, ![2048, 256]⟩
abbrev S8192x256 : Shape := ⟨2, ![8192, 256]⟩
abbrev S8192x8x32 : Shape := ⟨3, ![8192, 8, 32]⟩
abbrev S8192x8x4 : Shape := ⟨3, ![8192, 8, 4]⟩
abbrev S8192x32 : Shape := ⟨2, ![8192, 32]⟩
abbrev S8192x8 : Shape := ⟨2, ![8192, 8]⟩
abbrev S_ : Shape := ⟨0, ![]⟩
abbrev S8192x8x1 : Shape := ⟨3, ![8192, 8, 1]⟩
abbrev S1 : Shape := ⟨1, ![1]⟩
abbrev S1x1x1 : Shape := ⟨3, ![1, 1, 1]⟩
abbrev S8192 : Shape := ⟨1, ![8192]⟩
abbrev S8192x1 : Shape := ⟨2, ![8192, 1]⟩
abbrev S65536 : Shape := ⟨1, ![65536]⟩
abbrev S65536x1 : Shape := ⟨2, ![65536, 1]⟩
abbrev S1x256 : Shape := ⟨2, ![1, 256]⟩
abbrev S65536x256 : Shape := ⟨2, ![65536, 256]⟩
abbrev S256 : Shape := ⟨1, ![256]⟩

abbrev nBuf : Space → Nat
  | .hbm => 99
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S2048x256, .f32⟩
  | .hbm, ⟨3, _⟩ => ⟨S8192x256, .f32⟩
  | .hbm, ⟨4, _⟩ => ⟨S8192x8x32, .f32⟩
  | .hbm, ⟨5, _⟩ => ⟨S8192x8x4, .f32⟩
  | .hbm, ⟨6, _⟩ => ⟨S8192x8x4, .i32⟩
  | .hbm, ⟨7, _⟩ => ⟨S8192x32, .f32⟩
  | .hbm, ⟨8, _⟩ => ⟨S8192x32, .i32⟩
  | .hbm, ⟨9, _⟩ => ⟨S8192x8, .f32⟩
  | .hbm, ⟨10, _⟩ => ⟨S8192x8, .i32⟩
  | .hbm, ⟨11, _⟩ => ⟨S_, .i32⟩
  | .hbm, ⟨12, _⟩ => ⟨S_, .i32⟩
  | .hbm, ⟨13, _⟩ => ⟨S8192x8, .i32⟩
  | .hbm, ⟨14, _⟩ => ⟨S8192x8, .i32⟩
  | .hbm, ⟨15, _⟩ => ⟨S8192x8, .i32⟩
  | .hbm, ⟨16, _⟩ => ⟨S_, .i32⟩
  | .hbm, ⟨17, _⟩ => ⟨S8192x8, .i32⟩
  | .hbm, ⟨18, _⟩ => ⟨S8192x8, .i1⟩
  | .hbm, ⟨19, _⟩ => ⟨S8192x8, .i32⟩
  | .hbm, ⟨20, _⟩ => ⟨S8192x8, .i32⟩
  | .hbm, ⟨21, _⟩ => ⟨S_, .i32⟩
  | .hbm, ⟨22, _⟩ => ⟨S8192x8, .i32⟩
  | .hbm, ⟨23, _⟩ => ⟨S8192x8, .i1⟩
  | .hbm, ⟨24, _⟩ => ⟨S8192x8, .i1⟩
  | .hbm, ⟨25, _⟩ => ⟨S_, .i32⟩
  | .hbm, ⟨26, _⟩ => ⟨S8192x8, .i32⟩
  | .hbm, ⟨27, _⟩ => ⟨S8192x8, .i32⟩
  | .hbm, ⟨28, _⟩ => ⟨S8192x8, .i32⟩
  | .hbm, ⟨29, _⟩ => ⟨S_, .i32⟩
  | .hbm, ⟨30, _⟩ => ⟨S8192x8, .i32⟩
  | .hbm, ⟨31, _⟩ => ⟨S8192x8, .i1⟩
  | .hbm, ⟨32, _⟩ => ⟨S_, .i32⟩
  | .hbm, ⟨33, _⟩ => ⟨S8192x8, .i32⟩
  | .hbm, ⟨34, _⟩ => ⟨S8192x8, .i32⟩
  | .hbm, ⟨35, _⟩ => ⟨S8192x8, .i32⟩
  | .hbm, ⟨36, _⟩ => ⟨S8192x8x1, .i32⟩
  | .hbm, ⟨37, _⟩ => ⟨S1, .i32⟩
  | .hbm, ⟨38, _⟩ => ⟨S_, .i32⟩
  | .hbm, ⟨39, _⟩ => ⟨S8192x8x1, .i32⟩
  | .hbm, ⟨40, _⟩ => ⟨S8192x8x1, .i1⟩
  | .hbm, ⟨41, _⟩ => ⟨S1x1x1, .i32⟩
  | .hbm, ⟨42, _⟩ => ⟨S8192x8x1, .i32⟩
  | .hbm, ⟨43, _⟩ => ⟨S8192x8x1, .i1⟩
  | .hbm, ⟨44, _⟩ => ⟨S8192x8x1, .i1⟩
  | .hbm, ⟨45, _⟩ => ⟨S_, .i1⟩
  | .hbm, ⟨46, _⟩ => ⟨S8192x8, .i1⟩
  | .hbm, ⟨47, _⟩ => ⟨S8192x8, .i32⟩
  | .hbm, ⟨48, _⟩ => ⟨S_, .i32⟩
  | .hbm, ⟨49, _⟩ => ⟨S8192x8, .i32⟩
  | .hbm, ⟨50, _⟩ => ⟨S8192x8, .i32⟩
  | .hbm, ⟨51, _⟩ => ⟨S_, .i32⟩
  | .hbm, ⟨52, _⟩ => ⟨S8192x8, .i32⟩
  | .hbm, ⟨53, _⟩ => ⟨S8192x8, .i32⟩
  | .hbm, ⟨54, _⟩ => ⟨S8192x8, .i32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x8, .f32⟩
  | .hbm, ⟨62, _⟩ => ⟨S8192x8, .f32⟩
  | .hbm, ⟨63, _⟩ => ⟨S65536, .i32⟩
  | .hbm, ⟨64, _⟩ => ⟨S65536x1, .i32⟩
  | .hbm, ⟨65, _⟩ => ⟨S1x256, .i32⟩
  | .hbm, ⟨66, _⟩ => ⟨S65536x256, .i32⟩
  | .hbm, ⟨67, _⟩ => ⟨S65536x256, .i32⟩
  | .hbm, ⟨68, _⟩ => ⟨S65536x256, .i1⟩
  | .hbm, ⟨69, _⟩ => ⟨S65536x256, .f32⟩
  | .hbm, ⟨70, _⟩ => ⟨S_, .f32⟩
  | .hbm, ⟨71, _⟩ => ⟨S256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S_, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192x1, .f32⟩
  | .hbm, ⟨81, _⟩ => ⟨S8192x256, .f32⟩
  | .hbm, ⟨82, _⟩ => ⟨S8192x256, .f32⟩
  | .hbm, ⟨83, _⟩ => ⟨S8192x256, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x256, .f32⟩
  | .hbm, ⟨88, _⟩ => ⟨S8192x256, .f32⟩
  | .hbm, ⟨89, _⟩ => ⟨S_, .f32⟩
  | .hbm, ⟨90, _⟩ => ⟨S256, .f32⟩
  | .hbm, ⟨91, _⟩ => ⟨S_, .f32⟩
  | .hbm, ⟨92, _⟩ => ⟨S256, .f32⟩
  | .hbm, ⟨93, _⟩ => ⟨S256, .f32⟩
  | .hbm, ⟨94, _⟩ => ⟨S256, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_v3 : Ref sig .tc := ⟨.hbm, 7, rfl⟩
abbrev main_v4 : Ref sig .tc := ⟨.hbm, 8, rfl⟩
abbrev main_values_0 : Ref sig .tc := ⟨.hbm, 9, rfl⟩
abbrev main_indices_1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_c_4 : Ref sig .tc := ⟨.hbm, 48, rfl⟩
abbrev main_call1_v14 : Ref sig .tc := ⟨.hbm, 49, rfl⟩
abbrev main_v6 : Ref sig .tc := ⟨.hbm, 50, rfl⟩
abbrev main_c_2 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_cst : Ref sig .tc := ⟨.hbm, 55, rfl⟩
abbrev main_v10 : Ref sig .tc := ⟨.hbm, 56, rfl⟩
abbrev main_v11 : Ref sig .tc := ⟨.hbm, 57, rfl⟩
abbrev main_cst_3 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v17 : Ref sig .tc := ⟨.hbm, 69, rfl⟩
abbrev main_cst_4 : Ref sig .tc := ⟨.hbm, 70, rfl⟩
abbrev main_v18 : Ref sig .tc := ⟨.hbm, 71, rfl⟩
abbrev main_cst_5 : Ref sig .tc := ⟨.hbm, 72, rfl⟩
abbrev main_v19 : Ref sig .tc := ⟨.hbm, 73, rfl⟩
abbrev main_v20 : Ref sig .tc := ⟨.hbm, 74, rfl⟩
abbrev main_cst_6 : Ref sig .tc := ⟨.hbm, 75, rfl⟩
abbrev main_v21 : Ref sig .tc := ⟨.hbm, 76, rfl⟩
abbrev main_cst_7 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst_8 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_cst_9 : Ref sig .tc := ⟨.hbm, 89, rfl⟩
abbrev main_v32 : Ref sig .tc := ⟨.hbm, 90, rfl⟩
abbrev main_cst_10 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_11 : Ref sig .tc := ⟨.hbm, 95, rfl⟩
abbrev main_v36 : Ref sig .tc := ⟨.hbm, 96, rfl⟩
abbrev main_cst_12 : Ref sig .tc := ⟨.hbm, 97, rfl⟩
abbrev main_v37 : Ref sig .tc := ⟨.hbm, 98, rfl⟩

abbrev nD : Nat := 1
abbrev τ : Topo := Topo.v7x

variable {F : FTy → Type} [FloatOps F]
-- ==== Proof.Frames.lean ====
/- The frames of the three programs, and what the named mask stands for.

   Each kernel program runs to the end, leaves its arguments as they were and every counter at zero: its generated run says
   so. The reference is a straight line of host operations and declares no semaphore. The mask literal of the kernel, the most
   negative number it writes over an entry that is out of the race, is read as −∞. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The kernel on machine words runs, and changes neither argument. -/
theorem frame_kernel : Cert.quiescent_Kernel := fun m ρ _ => Cert.Kernel.Gen.frame m ρ

/-- The kernel on exact numbers runs, and changes neither argument. -/
theorem frame_kernelIdeal : Cert.quiescent_KernelIdeal := fun m ρ _ => Cert.KernelIdeal.Gen.frame m ρ

/-- The reference runs, and changes neither argument. -/
theorem frame_referenceIdeal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The mask literal, named, stands for −∞. -/
theorem preserves : Cert.preserves_Kernel_KernelIdeal :=
  IdealRules.named_const.statement Cert.KernelIdeal.κ "mask" .f32 0xFF61B1E6#32 ⊥ rfl

end Cert.Proof

end
-- ==== Proof.Rank.lean ====
/- Ranks. In a finite set `A` of candidates with different values, the rank of a candidate is the number of candidates with a
   larger value; each rank below the size of the set is taken by one candidate. Taking the largest away `k` times leaves the
   candidates of rank at least `k`, and the largest of those is the candidate of rank `k`. -/
module

public import Mathlib.Data.EReal.Basic
public import Mathlib.Data.Finset.Card

@[expose] public section

noncomputable section

namespace Cert.Rank

variable {ι : Type} [DecidableEq ι] (L : ι → ℝ)

open Classical in
/-- How many members of `A` have a larger value than `e`. -/
def rk (A : Finset ι) (e : ι) : ℕ := (A.filter fun j => L e < L j).card

theorem rk_lt_rk {A : Finset ι} {e e' : ι} (h' : e' ∈ A) (h : L e < L e') : rk L A e' < rk L A e := by
  classical
  unfold rk
  refine Finset.card_lt_card ⟨fun j hj => ?_, fun hsub => ?_⟩
  · rw [Finset.mem_filter] at hj ⊢
    exact ⟨hj.1, h.trans hj.2⟩
  · have := hsub (Finset.mem_filter.mpr ⟨h', h⟩)
    exact lt_irrefl _ (Finset.mem_filter.mp this).2

theorem rk_le_rk {A : Finset ι} {e e' : ι} (h : L e ≤ L e') : rk L A e' ≤ rk L A e := by
  classical
  unfold rk
  refine Finset.card_le_card fun j hj => ?_
  rw [Finset.mem_filter] at hj ⊢
  exact ⟨hj.1, h.trans_lt hj.2⟩

theorem rk_lt_card {A : Finset ι} {e : ι} (h : e ∈ A) : rk L A e < A.card := by
  classical
  unfold rk
  refine Finset.card_lt_card ⟨Finset.filter_subset _ _, fun hsub => ?_⟩
  exact lt_irrefl _ (Finset.mem_filter.mp (hsub h)).2

/-- Different candidates have different ranks. -/
theorem rk_inj (hL : Function.Injective L) {A : Finset ι} {e e' : ι} (h : e ∈ A) (h' : e' ∈ A)
    (hr : rk L A e = rk L A e') : e = e' := by
  rcases lt_trichotomy (L e) (L e') with hlt | heq | hgt
  · exact absurd hr (rk_lt_rk L h' hlt).ne'
  · exact hL heq
  · exact absurd hr (rk_lt_rk L h hgt).ne

/-- Every rank below the size of the set is taken. -/
theorem exists_rk (hL : Function.Injective L) {A : Finset ι} {k : ℕ} (hk : k < A.card) : ∃ e ∈ A, rk L A e = k := by
  classical
  have himg : A.image (rk L A) = Finset.range A.card := by
    refine Finset.eq_of_subset_of_card_le (fun n hn => ?_) ?_
    · obtain ⟨e, he, rfl⟩ := Finset.mem_image.mp hn
      exact Finset.mem_range.mpr (rk_lt_card L he)
    · rw [Finset.card_range, Finset.card_image_of_injOn]
      intro e he e' he' hr
      exact rk_inj L hL he he' hr
  have : k ∈ A.image (rk L A) := by rw [himg]; exact Finset.mem_range.mpr hk
  obtain ⟨e, he, hr⟩ := Finset.mem_image.mp this
  exact ⟨e, he, hr⟩

/-- How many candidates have a rank below `k`: `k`, while there are as many. -/
theorem card_rk_lt (hL : Function.Injective L) {A : Finset ι} {k : ℕ} (hk : k ≤ A.card) :
    (A.filter fun e => rk L A e < k).card = k := by
  classical
  have himg : (A.filter fun e => rk L A e < k).image (rk L A) = Finset.range k := by
    ext n
    rw [Finset.mem_image, Finset.mem_range]
    constructor
    · rintro ⟨e, he, rfl⟩
      exact (Finset.mem_filter.mp he).2
    · intro hn
      obtain ⟨e, he, hr⟩ := exists_rk L hL (hn.trans_le hk)
      exact ⟨e, Finset.mem_filter.mpr ⟨he, hr ▸ hn⟩, hr⟩
  have hinj : Set.InjOn (rk L A) (A.filter fun e => rk L A e < k) := fun e he e' he' hr =>
    rk_inj L hL (Finset.mem_filter.mp he).1 (Finset.mem_filter.mp he').1 hr
  have hcard := Finset.card_image_of_injOn hinj
  rw [himg, Finset.card_range] at hcard
  exact hcard.symm

/-- What is left of the row after the largest of `A` was taken away `k` times: the value of a candidate of rank at least
    `k`, and −∞ elsewhere. -/
def left (A : Finset ι) (k : ℕ) (e : ι) : EReal := if e ∈ A ∧ k ≤ rk L A e then (L e : EReal) else ⊥

variable {A : Finset ι} {k : ℕ} {e₀ : ι}

theorem left_le (h₀ : e₀ ∈ A) (hr : rk L A e₀ = k) (e : ι) : left L A k e ≤ (L e₀ : EReal) := by
  unfold left
  split
  · rename_i h
    by_contra hlt
    have hlt' : L e₀ < L e := by
      rw [not_le] at hlt
      exact_mod_cast hlt
    have := rk_lt_rk L h.1 hlt'
    omega
  · exact bot_le

theorem left_self (h₀ : e₀ ∈ A) (hr : rk L A e₀ = k) : left L A k e₀ = (L e₀ : EReal) := by
  unfold left
  rw [if_pos ⟨h₀, hr.ge⟩]

/-- The candidate of rank `k` alone reaches the largest value left. -/
theorem le_left_iff (hL : Function.Injective L) (h₀ : e₀ ∈ A) (hr : rk L A e₀ = k) (e : ι) :
    (L e₀ : EReal) ≤ left L A k e ↔ e = e₀ := by
  constructor
  · intro h
    have heq := le_antisymm (left_le L h₀ hr e) h
    unfold left at heq
    split at heq
    · exact hL (by exact_mod_cast heq)
    · exact absurd heq.symm (EReal.coe_ne_bot _)
  · rintro rfl
    exact (left_self L h₀ hr).ge

/-- Taking the largest away. -/
theorem left_succ (hL : Function.Injective L) (h₀ : e₀ ∈ A) (hr : rk L A e₀ = k) (e : ι) (he : e ∈ A ∨ e ≠ e₀) :
    (if (L e₀ : EReal) ≤ left L A k e then ⊥ else left L A k e) = left L A (k + 1) e := by
  rw [if_congr (le_left_iff L hL h₀ hr e) rfl rfl]
  by_cases h : e = e₀
  · subst h
    rw [if_pos rfl]
    unfold left
    rw [if_neg (fun hc => by have := hc.2; omega)]
  · rw [if_neg h]
    unfold left
    refine if_congr ⟨fun hc => ⟨hc.1, ?_⟩, fun hc => ⟨hc.1, by have := hc.2; omega⟩⟩ rfl rfl
    rcases hc.2.lt_or_eq with hlt | heq
    · exact hlt
    · exact absurd (rk_inj L hL hc.1 h₀ (heq.symm.trans hr.symm)) h

/-- The largest value left: a number that is at most the numbers above every value left. -/
theorem max_eq (h₀ : e₀ ∈ A) (hr : rk L A e₀ = k) {T : Finset ι} (hT : A ⊆ T) {M : EReal}
    (hM : ∀ x : EReal, M ≤ x ↔ ∀ e ∈ T, left L A k e ≤ x) : M = (L e₀ : EReal) := by
  refine le_antisymm ((hM _).mpr fun e _ => left_le L h₀ hr e) ?_
  rw [← left_self L h₀ hr]
  exact (hM M).mp le_rfl e₀ (hT h₀)

end Cert.Rank

end
-- ==== Proof.Sorted.lean ====
/- What the reference's two selections of largest entries hold. A row of different numbers sorted downwards has at position `i`
   the number with exactly `i` larger ones in the row; the selection keeps the first positions, and with each number its place in
   the row. -/
module

public import proofs.«01_k».proof.Proof.Rank
public import proofs.«01_k».proof.Proof.Gen.ReferenceIdeal.Read
public import Idealize.ShloMosaic.Lib.SortFacts

@[expose] public section

noncomputable section

namespace Cert.Sorted

open Idealize.ShloMosaic Idealize.ShloMosaic.ValueIdx Cert.ReferenceIdeal Cert.ReferenceIdeal.Gen Cert.Rank

/-- The order the selections sort by: larger first. -/
abbrev before {n : ℕ} (f : Fin n → EReal) (k k' : Fin n) : Bool := FloatOps.cmpfTotal (F := Ideal) (φ := .f32) .gt (f k) (f k') == 1#1

theorem before_iff {n : ℕ} (f : Fin n → EReal) (k k' : Fin n) : before f k k' = true ↔ f k' < f k := by
  unfold before
  rw [Ideal.cmpfTotal_def, beq_iff_eq]
  show BitVec.ofBool (decide (f k > f k')) = 1#1 ↔ _
  by_cases h : f k > f k'
  · rw [decide_eq_true h]
    exact ⟨fun _ => h, fun _ => rfl⟩
  · rw [decide_eq_false h]
    exact ⟨fun hc => absurd hc (by decide), fun hc => absurd hc h⟩

theorem before_false {n : ℕ} {f : Fin n → EReal} {k k' : Fin n} : before f k k' = false ↔ f k ≤ f k' := by
  rw [← Bool.not_eq_true, before_iff, not_lt]

/-- The place sorted to position `i` is the one of rank `i`. -/
theorem rk_sorted {n : ℕ} {f : Fin n → ℝ} (hf : Function.Injective f) (i : Fin n) :
    rk f Finset.univ (sortedFrom (before fun k => (f k : EReal)) i) = i.val := by
  classical
  have hle : ∀ i j : Fin n, i < j → f (sortedFrom (before fun k => (f k : EReal)) j) < f (sortedFrom (before fun k => (f k : EReal)) i) := by
    intro i j hij
    have h := sortedFrom_noInversion (before fun k => (f k : EReal)) (before fun k => (f k : EReal))
      (fun a b h => before_false.mpr ((before_iff _ _ _).mp h).le) (fun _ _ h => h)
      (fun a b c h h' => before_false.mpr ((before_false.mp h).trans (before_false.mp h'))) i j hij
    have h' : f (sortedFrom (before fun k => (f k : EReal)) j) ≤ f (sortedFrom (before fun k => (f k : EReal)) i) :=
      EReal.coe_le_coe_iff.mp (before_false.mp h)
    exact lt_of_le_of_ne h' fun hc => absurd (sortedFrom_injective _ (hf hc)) (ne_of_gt hij)
  have hset : (Finset.univ.filter fun j => f (sortedFrom (before fun k => (f k : EReal)) i) < f j)
      = (Finset.Iio i).image (sortedFrom (before fun k => (f k : EReal))) := by
    ext j
    rw [Finset.mem_filter, Finset.mem_image]
    constructor
    · rintro ⟨-, h⟩
      obtain ⟨j, rfl⟩ := sortedFrom_surjective (before fun k => (f k : EReal)) j
      refine ⟨j, Finset.mem_Iio.mpr ?_, rfl⟩
      by_contra hij
      rcases (not_lt.mp hij).eq_or_lt with h' | h'
      · subst h'; exact lt_irrefl _ h
      · exact lt_asymm h (hle i j h')
    · rintro ⟨j, hj, rfl⟩
      exact ⟨Finset.mem_univ _, hle j i (Finset.mem_Iio.mp hj)⟩
  unfold rk
  rw [Finset.filter_congr_decidable, hset, Finset.card_image_of_injective _ (sortedFrom_injective _), Fin.card_Iio]

/-- The selection of four in each group of 32. -/
theorem top_four (x : S8192x8x32.Idx → EReal) (t : Fin 8192) (g : Fin 8) {f : Fin 32 → ℝ} (hf : Function.Injective f)
    (hx : ∀ k, x (ix3 t g k) = (f k : EReal)) (r : Fin 4) : ∃ p : Fin 32, rk f Finset.univ p = r.val
      ∧ (Host.topK S8192x8x4 2 (FloatOps.cmpfTotal (F := Ideal) (φ := .f32) .gt) x sliceFits_S8192x8x32_S8192x8x4).1 (ix3 t g r) = (f p : EReal)
      ∧ (Host.topK S8192x8x4 2 (FloatOps.cmpfTotal (F := Ideal) (φ := .f32) .gt) x sliceFits_S8192x8x32_S8192x8x4).2 (ix3 t g r)
        = BitVec.ofNat 32 p.val := by
  have hal : ∀ k : Fin 32, (ix3 t g ⟨r.val, (by omega : r.val < 32)⟩ : S8192x8x32.Idx).along 2 k = ix3 t g k := by
    intro k
    funext a
    match a with
    | ⟨0, _⟩ => rfl
    | ⟨1, _⟩ => rfl
    | ⟨2, _⟩ => rfl
  have hb : (fun k k' : Fin 32 => FloatOps.cmpfTotal (F := Ideal) (φ := .f32) .gt (x ((ix3 t g ⟨r.val, (by omega : r.val < 32)⟩ : S8192x8x32.Idx).along 2 k))
      (x ((ix3 t g ⟨r.val, (by omega : r.val < 32)⟩ : S8192x8x32.Idx).along 2 k')) == 1#1) = before fun k => (f k : EReal) := by
    funext k k'
    rw [hal, hal, hx, hx]
  refine ⟨sortedFrom (before fun k => (f k : EReal)) ⟨r.val, (by omega : r.val < 32)⟩, rk_sorted hf _, ?_, ?_⟩
  · show extractStridedSlice S8192x8x4 (fun _ => 0) (Host.sort2 S8192x8x32 2 (fun l r : EReal × BitVec 32 => FloatOps.cmpfTotal (F := Ideal) (φ := .f32) .gt l.1 r.1) x
      (fun i => if hd : 2 < S8192x8x32.rank then iotaInDim S8192x8x32 32 ⟨2, hd⟩ i else 0#32)).1 sliceFits_S8192x8x32_S8192x8x4 (ix3 t g r) = _
    refine (extractStridedSlice_apply _ _ _ _ (ix3 t g ⟨r.val, (by omega : r.val < 32)⟩) fun a => ?_).trans ?_
    · match a with
      | ⟨0, _⟩ => show t.val = 0 + t.val; omega
      | ⟨1, _⟩ => show g.val = 0 + g.val; omega
      | ⟨2, _⟩ => show r.val = 0 + r.val; omega
    · unfold Host.sort2
      rw [dif_pos (show 2 < S8192x8x32.rank by decide)]
      show x ((ix3 t g ⟨r.val, (by omega : r.val < 32)⟩ : S8192x8x32.Idx).along 2 (sortedFrom (n := 32) (fun k k' => _) ⟨r.val, (by omega : r.val < 32)⟩)) = _
      rw [hal, hx]
      exact congrArg (fun b => ((f (sortedFrom b ⟨r.val, (by omega : r.val < 32)⟩) : ℝ) : EReal)) hb
  · show extractStridedSlice S8192x8x4 (fun _ => 0) (Host.sort2 S8192x8x32 2 (fun l r : EReal × BitVec 32 => FloatOps.cmpfTotal (F := Ideal) (φ := .f32) .gt l.1 r.1) x
      (fun i => if hd : 2 < S8192x8x32.rank then iotaInDim S8192x8x32 32 ⟨2, hd⟩ i else 0#32)).2 sliceFits_S8192x8x32_S8192x8x4 (ix3 t g r) = _
    refine (extractStridedSlice_apply _ _ _ _ (ix3 t g ⟨r.val, (by omega : r.val < 32)⟩) fun a => ?_).trans ?_
    · match a with
      | ⟨0, _⟩ => show t.val = 0 + t.val; omega
      | ⟨1, _⟩ => show g.val = 0 + g.val; omega
      | ⟨2, _⟩ => show r.val = 0 + r.val; omega
    · unfold Host.sort2
      rw [dif_pos (show 2 < S8192x8x32.rank by decide)]
      show BitVec.ofNat 32 (((ix3 t g ⟨r.val, (by omega : r.val < 32)⟩ : S8192x8x32.Idx).along 2 (sortedFrom (n := 32) (fun k k' => _) ⟨r.val, (by omega : r.val < 32)⟩)) 2).val = _
      rw [hal]
      exact congrArg (fun b => BitVec.ofNat 32 (sortedFrom b ⟨r.val, (by omega : r.val < 32)⟩).val) hb

/-- The selection of eight among the 32 candidates. -/
theorem top_eight (x : S8192x32.Idx → EReal) (t : Fin 8192) {f : Fin 32 → ℝ} (hf : Function.Injective f)
    (hx : ∀ k, x (ix2 t k) = (f k : EReal)) (r : Fin 8) : ∃ p : Fin 32, rk f Finset.univ p = r.val
      ∧ (Host.topK S8192x8 1 (FloatOps.cmpfTotal (F := Ideal) (φ := .f32) .gt) x sliceFits_S8192x32_S8192x8).1 (ix2 t r) = (f p : EReal)
      ∧ (Host.topK S8192x8 1 (FloatOps.cmpfTotal (F := Ideal) (φ := .f32) .gt) x sliceFits_S8192x32_S8192x8).2 (ix2 t r)
        = BitVec.ofNat 32 p.val := by
  have hal : ∀ k : Fin 32, (ix2 t ⟨r.val, (by omega : r.val < 32)⟩ : S8192x32.Idx).along 1 k = ix2 t k := by
    intro k
    funext a
    match a with
    | ⟨0, _⟩ => rfl
    | ⟨1, _⟩ => rfl
  have hb : (fun k k' : Fin 32 => FloatOps.cmpfTotal (F := Ideal) (φ := .f32) .gt (x ((ix2 t ⟨r.val, (by omega : r.val < 32)⟩ : S8192x32.Idx).along 1 k))
      (x ((ix2 t ⟨r.val, (by omega : r.val < 32)⟩ : S8192x32.Idx).along 1 k')) == 1#1) = before fun k => (f k : EReal) := by
    funext k k'
    rw [hal, hal, hx, hx]
  refine ⟨sortedFrom (before fun k => (f k : EReal)) ⟨r.val, (by omega : r.val < 32)⟩, rk_sorted hf _, ?_, ?_⟩
  · show extractStridedSlice S8192x8 (fun _ => 0) (Host.sort2 S8192x32 1 (fun l r : EReal × BitVec 32 => FloatOps.cmpfTotal (F := Ideal) (φ := .f32) .gt l.1 r.1) x
      (fun i => if hd : 1 < S8192x32.rank then iotaInDim S8192x32 32 ⟨1, hd⟩ i else 0#32)).1 sliceFits_S8192x32_S8192x8 (ix2 t r) = _
    refine (extractStridedSlice_apply _ _ _ _ (ix2 t ⟨r.val, (by omega : r.val < 32)⟩) fun a => ?_).trans ?_
    · match a with
      | ⟨0, _⟩ => show t.val = 0 + t.val; omega
      | ⟨1, _⟩ => show r.val = 0 + r.val; omega
    · unfold Host.sort2
      rw [dif_pos (show 1 < S8192x32.rank by decide)]
      show x ((ix2 t ⟨r.val, (by omega : r.val < 32)⟩ : S8192x32.Idx).along 1 (sortedFrom (n := 32) (fun k k' => _) ⟨r.val, (by omega : r.val < 32)⟩)) = _
      rw [hal, hx]
      exact congrArg (fun b => ((f (sortedFrom b ⟨r.val, (by omega : r.val < 32)⟩) : ℝ) : EReal)) hb
  · show extractStridedSlice S8192x8 (fun _ => 0) (Host.sort2 S8192x32 1 (fun l r : EReal × BitVec 32 => FloatOps.cmpfTotal (F := Ideal) (φ := .f32) .gt l.1 r.1) x
      (fun i => if hd : 1 < S8192x32.rank then iotaInDim S8192x32 32 ⟨1, hd⟩ i else 0#32)).2 sliceFits_S8192x32_S8192x8 (ix2 t r) = _
    refine (extractStridedSlice_apply _ _ _ _ (ix2 t ⟨r.val, (by omega : r.val < 32)⟩) fun a => ?_).trans ?_
    · match a with
      | ⟨0, _⟩ => show t.val = 0 + t.val; omega
      | ⟨1, _⟩ => show r.val = 0 + r.val; omega
    · unfold Host.sort2
      rw [dif_pos (show 1 < S8192x32.rank by decide)]
      show BitVec.ofNat 32 (((ix2 t ⟨r.val, (by omega : r.val < 32)⟩ : S8192x32.Idx).along 1 (sortedFrom (n := 32) (fun k k' => _) ⟨r.val, (by omega : r.val < 32)⟩)) 1).val = _
      rw [hal]
      exact congrArg (fun b => BitVec.ofNat 32 (sortedFrom b ⟨r.val, (by omega : r.val < 32)⟩).val) hb

end Cert.Sorted

end
-- ==== Proof.Pick.lean ====
/- The router's choice for one token, from its 256 logits: the candidates are the four largest of each group of 32 experts, and
   the choice is the eight largest candidates, in order. -/
module

public import proofs.«01_k».proof.Proof.Rank
public import Mathlib.Algebra.BigOperators.Group.Finset.Basic
public import Mathlib.Data.Fintype.Basic
public import Mathlib.Algebra.Order.BigOperators.Group.Finset

@[expose] public section

noncomputable section

namespace Cert.Pick

open Cert.Rank

/-- The experts of group `g`. -/
def group (g : ℕ) : Finset (Fin 256) := Finset.univ.filter fun e => e.val / 32 = g

theorem mem_group {g : ℕ} {e : Fin 256} : e ∈ group g ↔ e.val / 32 = g := by simp [group]

set_option maxRecDepth 4096 in
theorem card_group : ∀ g : Fin 8, (group g.val).card = 32 := by decide

theorem group_lt (e : Fin 256) : e.val / 32 < 8 := by have := e.isLt; omega

variable (L : Fin 256 → ℝ)

/-- The place of an expert in its group, by size of the logit. -/
def place (e : Fin 256) : ℕ := rk L (group (e.val / 32)) e

/-- The candidates: the four largest of each group. -/
def cand : Finset (Fin 256) := Finset.univ.filter fun e => place L e < 4

theorem mem_cand {e : Fin 256} : e ∈ cand L ↔ place L e < 4 := by simp [cand]

variable {L}

/-- Each place of a group is taken. -/
theorem exists_place (hL : Function.Injective L) {g k : ℕ} (hg : g < 8) (hk : k < 32) : ∃ e, e.val / 32 = g ∧ place L e = k := by
  obtain ⟨e, he, hr⟩ := exists_rk L hL (A := group g) (k := k) (by rw [card_group ⟨g, hg⟩]; exact hk)
  rw [mem_group] at he
  exact ⟨e, he, by unfold place; rw [he]; exact hr⟩

theorem card_cand (hL : Function.Injective L) : (cand L).card = 32 := by
  classical
  have hfib : ∀ g ∈ Finset.range 8, ((cand L).filter fun e => e.val / 32 = g).card = 4 := by
    intro g hg
    have hg' : g < 8 := Finset.mem_range.mp hg
    rw [← card_rk_lt L hL (A := group g) (k := 4) (by rw [card_group ⟨g, hg'⟩]; omega)]
    refine congrArg Finset.card (Finset.ext fun e => ?_)
    rw [Finset.mem_filter, Finset.mem_filter, mem_cand, mem_group]
    unfold place
    constructor
    · rintro ⟨h, he⟩
      exact ⟨he, he ▸ h⟩
    · rintro ⟨he, h⟩
      exact ⟨he.symm ▸ h, he⟩
  rw [Finset.card_eq_sum_card_fiberwise (f := fun e : Fin 256 => e.val / 32) (t := Finset.range 8)
    (fun e _ => Finset.mem_coe.mpr (Finset.mem_range.mpr (group_lt e))), Finset.sum_congr rfl hfib]
  rfl

open Classical in
/-- The candidate of rank `k`. -/
def nth (L : Fin 256 → ℝ) (k : ℕ) : Fin 256 := if h : ∃ e ∈ cand L, rk L (cand L) e = k then h.choose else 0

theorem nth_spec (hL : Function.Injective L) {k : ℕ} (hk : k < 32) : nth L k ∈ cand L ∧ rk L (cand L) (nth L k) = k := by
  have h := exists_rk L hL (A := cand L) (k := k) (by rw [card_cand hL]; exact hk)
  unfold nth
  rw [dif_pos h]
  exact h.choose_spec

/-- It is the only one. -/
theorem eq_nth (hL : Function.Injective L) {k : ℕ} (hk : k < 32) {e : Fin 256} (he : e ∈ cand L) (hr : rk L (cand L) e = k) :
    e = nth L k :=
  rk_inj L hL he (nth_spec hL hk).1 (hr.trans (nth_spec hL hk).2.symm)

/-- An expert is chosen: it is one of the eight largest candidates. -/
def Chosen (L : Fin 256 → ℝ) (e : Fin 256) : Prop := e ∈ cand L ∧ rk L (cand L) e < 8

theorem chosen_iff (hL : Function.Injective L) (e : Fin 256) : Chosen L e ↔ ∃ k : Fin 8, nth L k.val = e := by
  constructor
  · rintro ⟨he, hr⟩
    exact ⟨⟨_, hr⟩, (eq_nth hL (by omega) he rfl).symm⟩
  · rintro ⟨k, rfl⟩
    have hk := k.isLt
    have := nth_spec hL (k := k.val) (by omega)
    exact ⟨this.1, by rw [this.2]; exact hk⟩

theorem nth_inj (hL : Function.Injective L) {k k' : ℕ} (hk : k < 32) (hk' : k' < 32) (h : nth L k = nth L k') : k = k' := by
  rw [← (nth_spec hL hk).2, ← (nth_spec hL hk').2, h]

end Cert.Pick

end
-- ==== Proof.Slots.lean ====
/- The candidates in the reference's order: slot `m` of 32 is the expert at place `m % 4` of group `m / 4`. The slot of rank `k` by
   size of the logit is the candidate of rank `k`. -/
module

public import proofs.«01_k».proof.Proof.Pick

@[expose] public section

noncomputable section

namespace Cert.Slots

open Cert.Rank Cert.Pick

/-- The expert of group `g` a selection inside the group calls `k`. -/
def inGroup (g : Fin 8) (k : Fin 32) : Fin 256 := ⟨g.val * 32 + k.val, by omega⟩

theorem inGroup_inj (g : Fin 8) : Function.Injective (inGroup g) := by
  intro k k' h
  have := congrArg Fin.val h
  exact Fin.ext (by simp only [inGroup] at this; omega)

/-- The rank in the row of a group is the place in the group. -/
theorem rk_inGroup (L : Fin 256 → ℝ) (g : Fin 8) (k : Fin 32) : rk (fun k => L (inGroup g k)) Finset.univ k = place L (inGroup g k) := by
  classical
  have hg : (inGroup g k).val / 32 = g.val := by simp only [inGroup]; omega
  unfold place rk
  rw [hg]
  refine Finset.card_bij (fun j _ => inGroup g j) (fun j hj => ?_) (fun j _ j' _ h => inGroup_inj g h) fun e he => ?_
  · rw [Finset.mem_filter] at hj
    exact Finset.mem_filter.mpr ⟨mem_group.mpr (by simp only [inGroup]; omega), hj.2⟩
  · rw [Finset.mem_filter, mem_group] at he
    have heq : inGroup g ⟨e.val % 32, by omega⟩ = e := Fin.ext (by simp only [inGroup]; omega)
    exact ⟨⟨e.val % 32, by omega⟩, Finset.mem_filter.mpr ⟨Finset.mem_univ _, he.2.trans_eq (congrArg L heq.symm)⟩, heq⟩

open Classical in
/-- Slot `m`. -/
def slot (L : Fin 256 → ℝ) (m : Fin 32) : Fin 256 := if h : ∃ e : Fin 256, e.val / 32 = m.val / 4 ∧ place L e = m.val % 4 then h.choose else 0

variable {L : Fin 256 → ℝ} (hL : Function.Injective L)

include hL

theorem slot_spec (m : Fin 32) : (slot L m).val / 32 = m.val / 4 ∧ place L (slot L m) = m.val % 4 := by
  have h := exists_place hL (g := m.val / 4) (k := m.val % 4) (by omega) (by omega)
  unfold slot
  rw [dif_pos h]
  exact h.choose_spec

/-- An expert is known by its group and its place there. -/
theorem eq_of_place {e e' : Fin 256} (hg : e.val / 32 = e'.val / 32) (hp : place L e = place L e') : e = e' := by
  refine rk_inj L hL (A := group (e.val / 32)) (mem_group.mpr rfl) (mem_group.mpr hg.symm) ?_
  have h : place L e' = rk L (group (e.val / 32)) e' := by unfold place; rw [hg]
  exact hp.trans h

theorem eq_slot (m : Fin 32) {e : Fin 256} (hg : e.val / 32 = m.val / 4) (hp : place L e = m.val % 4) : e = slot L m :=
  eq_of_place hL (hg.trans (slot_spec hL m).1.symm) (hp.trans (slot_spec hL m).2.symm)

theorem slot_inj : Function.Injective (slot L) := by
  intro m m' h
  have h1 := slot_spec hL m
  have h2 := slot_spec hL m'
  rw [h] at h1
  exact Fin.ext (by have := h1.1; have := h1.2; have := h2.1; have := h2.2; omega)

theorem slot_mem (m : Fin 32) : slot L m ∈ cand L := (mem_cand L).mpr (by rw [(slot_spec hL m).2]; omega)

theorem exists_slot {e : Fin 256} (he : e ∈ cand L) : ∃ m, slot L m = e := by
  have hp := (mem_cand L).mp he
  have hg := group_lt e
  refine ⟨⟨e.val / 32 * 4 + place L e, by omega⟩, (eq_slot hL _ ?_ ?_).symm⟩
  · show e.val / 32 = (e.val / 32 * 4 + place L e) / 4
    omega
  · show place L e = (e.val / 32 * 4 + place L e) % 4
    omega

/-- The logits of the slots are different. -/
theorem slots_inj : Function.Injective fun m => L (slot L m) := fun _ _ h => slot_inj hL (hL h)

theorem slot_nth {m : Fin 32} {k : ℕ} (hk : k < 32) (h : rk (fun m => L (slot L m)) Finset.univ m = k) : slot L m = nth L k := by
  classical
  refine eq_nth hL hk (slot_mem hL m) (Eq.trans ?_ h)
  unfold rk
  refine (Finset.card_bij (fun j _ => slot L j) (fun j hj => ?_) (fun j _ j' _ h => slot_inj hL h) fun e he => ?_).symm
  · rw [Finset.mem_filter] at hj
    exact Finset.mem_filter.mpr ⟨slot_mem hL j, hj.2⟩
  · rw [Finset.mem_filter] at he
    obtain ⟨j, rfl⟩ := exists_slot hL he.1
    exact ⟨j, Finset.mem_filter.mpr ⟨Finset.mem_univ _, he.2⟩, rfl⟩

end Cert.Slots

end
-- ==== Proof.Lanes.lean ====
/- One row of 256 logits lies in two halves of 128 lanes. Lane `q` of the first half holds expert `(q % 8) * 32 + q / 8`, lane
   `q` of the second half the expert 16 further on, so that the lanes of one residue modulo 8 hold one group of 32 experts. This
   module reads the kernel's steps over such pairs of halves: the largest value of a group, the largest value of the row, the
   position of the largest value, and masking. -/
module

public import proofs.«01_k».proof.Proof.Rank
public import proofs.«01_k».proof.Proof.Gen.KernelIdeal.Skeleton
public import Idealize.ShloMosaic.Lib.ValueIdx
public import Idealize.ShloMosaic.Lib.KernelVsHost
public import Idealize.ShloMosaic.Lib.Pipeline.Value

@[expose] public section

noncomputable section

namespace Cert.Lanes

open Idealize.ShloMosaic Idealize.ShloMosaic.ValueIdx Cert.KernelIdeal Cert.KernelIdeal.Gen

/-- The expert in lane `q` of the first half. -/
def e0 (q : Fin 128) : Fin 256 := ⟨q.val % 8 * 32 + q.val / 8, by have := q.isLt; omega⟩

/-- The expert in lane `q` of the second half. -/
def e1 (q : Fin 128) : Fin 256 := ⟨q.val % 8 * 32 + 16 + q.val / 8, by have := q.isLt; omega⟩

/-- The lane of an expert. -/
def lane (e : Fin 256) : Fin 128 := ⟨e.val % 16 * 8 + e.val / 32, by have := e.isLt; omega⟩

/-- The position of an expert in the row: its lane, and 128 more in the second half. -/
def pos (e : Fin 256) : ℕ := e.val / 16 % 2 * 128 + (lane e).val

/-- Every expert is in the first or in the second half, at its lane. -/
theorem e0_or_e1 : ∀ e : Fin 256, e0 (lane e) = e ∧ pos e = (lane e).val ∨ e1 (lane e) = e ∧ pos e = (lane e).val + 128 := by
  decide

theorem pos_e0 : ∀ q : Fin 128, pos (e0 q) = q.val := by decide

theorem pos_e1 : ∀ q : Fin 128, pos (e1 q) = q.val + 128 := by decide

theorem pos_lt (e : Fin 256) : pos e < 256 := by
  have := (lane e).isLt
  unfold pos; omega

/-- The group of the expert in a lane. -/
theorem e0_group (q : Fin 128) : (e0 q).val / 32 = q.val % 8 := by
  have hq := q.isLt
  show (q.val % 8 * 32 + q.val / 8) / 32 = q.val % 8
  omega

theorem e1_group (q : Fin 128) : (e1 q).val / 32 = q.val % 8 := by
  have hq := q.isLt
  show (q.val % 8 * 32 + 16 + q.val / 8) / 32 = q.val % 8
  omega

theorem lane_group (e : Fin 256) : (lane e).val % 8 = e.val / 32 := by
  have he := e.isLt
  show (e.val % 16 * 8 + e.val / 32) % 8 = e.val / 32
  omega

/-- A statement about all experts is one about all lanes of both halves. -/
theorem forall_expert {P : Fin 256 → Prop} : (∀ e, P e) ↔ ∀ q, P (e0 q) ∧ P (e1 q) := by
  refine ⟨fun h q => ⟨h _, h _⟩, fun h e => ?_⟩
  rcases e0_or_e1 e with ⟨he, _⟩ | ⟨he, _⟩
  · exact he ▸ (h (lane e)).1
  · exact he ▸ (h (lane e)).2

/-- A half of the block: 256 rows of 128 lanes. -/
abbrev Half := FVec Ideal S256x128 .f32

/-- One number for each of the 256 rows. -/
abbrev Col := FVec Ideal S256x1 .f32

/-- The two halves hold `f row expert`. -/
def Holds (a0 a1 : Half) (f : Fin 256 → Fin 256 → EReal) : Prop :=
  ∀ b q, a0 (ix2 b q) = f b (e0 q) ∧ a1 (ix2 b q) = f b (e1 q)

/-- The two halves of bits say `P row expert`. -/
def Marks (h0 h1 : IVec S256x128 1) (P : Fin 256 → Fin 256 → Prop) : Prop :=
  ∀ b q, (h0 (ix2 b q) = 1#1 ↔ P b (e0 q)) ∧ (h1 (ix2 b q) = 1#1 ↔ P b (e1 q))

/-- The column holds `g row`. -/
def Is (m : Col) (g : Fin 256 → EReal) : Prop := ∀ b, m (ix2 b 0) = g b

/-- The word that stands for −∞. -/
abbrev maskWord : Ideal .f32 := Named.named κ "mask" 0xFF61B1E6#32

theorem maskWord_eq : maskWord = (⊥ : EReal) := IdealRules.named_const.ideal_named_scalar _ _ _ _ rfl

theorem cmp_oge (a b : EReal) : Ideal.cmp .oge a b = 1#1 ↔ b ≤ a := by
  show BitVec.ofBool (decide (b ≤ a)) = 1#1 ↔ b ≤ a
  by_cases h : b ≤ a <;> simp [h]

theorem cmp_one (a b : EReal) : Ideal.cmp .one a b = 1#1 ↔ a ≠ b := by
  show BitVec.ofBool (decide (a ≠ b)) = 1#1 ↔ a ≠ b
  by_cases h : a = b <;> simp [h]

theorem select_if {α : Type} {c : BitVec 1} {P : Prop} [Decidable P] (h : c = 1#1 ↔ P) (a b : α) :
    Scalar.select c a b = if P then a else b := by
  by_cases hp : P
  · rw [if_pos hp, h.mpr hp]; rfl
  · rw [if_neg hp, eq_zero_of_ne_one (fun hc => hp (h.mp hc))]; rfl

/-! ## The largest value of a group -/

/-- One stage: every lane with the lane `n` before it, around the end. -/
def turn (n : BitVec 32) (c : Half) : Half := maximumf c (dynamicRotate 1 n none c rotates_S256x128_d1)

theorem turn_apply (n : BitVec 32) (c : Half) (b : Fin 256) (q : Fin 128) :
    turn n c (ix2 b q)
      = max (c (ix2 b q)) (c (ix2 b (⟨(q.val + 128 - n.toNat % 128) % 128, Nat.mod_lt _ (by omega)⟩ : Fin 128))) := by
  unfold turn
  rw [maximumf_apply]
  refine congrArg (max _) (dynamicRotate_apply (1 : Fin 2) n c rotates_S256x128_d1 (ix2 b q) _ fun a => ?_)
  match a with
  | ⟨0, _⟩ => rfl
  | ⟨1, _⟩ => rfl

/-- The four stages. -/
def groupMax (a0 a1 : Half) : Half := turn 64#32 (turn 32#32 (turn 16#32 (turn 8#32 (maximumf a0 a1))))

/-- The lane `8 * j` before lane `q`, around the end. -/
def back (q : Fin 128) (j : ℕ) : Fin 128 := ⟨(q.val + 128 - 8 * j % 128) % 128, Nat.mod_lt _ (by omega)⟩

/-- A stage doubles the number of lanes looked at. -/
theorem turn_le {c d : Half} {b : Fin 256} {x : EReal} (m : ℕ) (n : BitVec 32) (hn : n.toNat = 8 * m)
    (h : ∀ q, c (ix2 b q) ≤ x ↔ ∀ j < m, d (ix2 b (back q j)) ≤ x) (q : Fin 128) :
    turn n c (ix2 b q) ≤ x ↔ ∀ j < m + m, d (ix2 b (back q j)) ≤ x := by
  have hback : ∀ j, back (back q m) j = back q (m + j) := fun j => Fin.ext (by
    show ((q.val + 128 - 8 * m % 128) % 128 + 128 - 8 * j % 128) % 128 = (q.val + 128 - 8 * (m + j) % 128) % 128
    have := q.isLt
    omega)
  have hturn : turn n c (ix2 b q) = max (c (ix2 b q)) (c (ix2 b (back q m))) := by
    rw [turn_apply]
    simp only [hn]
    rfl
  rw [hturn, max_le_iff, h, h]
  constructor
  · rintro ⟨h1, h2⟩ j hj
    by_cases hjm : j < m
    · exact h1 j hjm
    · have := h2 (j - m) (by omega)
      rwa [hback, show m + (j - m) = j by omega] at this
  · intro h
    refine ⟨fun j hj => h j (by omega), fun j hj => ?_⟩
    rw [hback]
    exact h _ (by omega)

theorem groupMax_le (a0 a1 : Half) (b : Fin 256) (q : Fin 128) (x : EReal) :
    groupMax a0 a1 (ix2 b q) ≤ x ↔ ∀ q' : Fin 128, q'.val % 8 = q.val % 8 → a0 (ix2 b q') ≤ x ∧ a1 (ix2 b q') ≤ x := by
  have h0 : ∀ q, maximumf a0 a1 (ix2 b q) ≤ x ↔ ∀ j < 1, maximumf a0 a1 (ix2 b (back q j)) ≤ x := by
    intro q
    have hq : back q 0 = q := Fin.ext (by
      show (q.val + 128 - 8 * 0 % 128) % 128 = q.val
      have := q.isLt
      omega)
    constructor
    · intro h j hj
      rw [show j = 0 by omega, hq]
      exact h
    · intro h
      have := h 0 (by omega)
      rwa [hq] at this
  unfold groupMax
  rw [turn_le 8 64#32 rfl (turn_le 4 32#32 rfl (turn_le 2 16#32 rfl (turn_le 1 8#32 rfl h0))) q]
  have hq := q.isLt
  constructor
  · intro h q' hq'
    have hlt := q'.isLt
    have := h ((q.val + 128 - q'.val) % 128 / 8) (by omega)
    rw [show back q ((q.val + 128 - q'.val) % 128 / 8) = q' from Fin.ext (by
      show (q.val + 128 - 8 * ((q.val + 128 - q'.val) % 128 / 8) % 128) % 128 = q'.val
      omega), maximumf_apply, max_le_iff] at this
    exact this
  · intro h j _
    rw [maximumf_apply, max_le_iff]
    exact h _ (by
      show (q.val + 128 - 8 * j % 128) % 128 % 8 = q.val % 8
      omega)

/-- The largest value of a group is at most the numbers above every value of the group. -/
theorem groupMax_le_iff {a0 a1 : Half} {f : Fin 256 → Fin 256 → EReal} (hf : Holds a0 a1 f) (b : Fin 256) (q : Fin 128) (x : EReal) :
    groupMax a0 a1 (ix2 b q) ≤ x ↔ ∀ e : Fin 256, e.val / 32 = q.val % 8 → f b e ≤ x := by
  rw [groupMax_le, forall_expert]
  refine forall_congr' fun q' => ?_
  rw [(hf b q').1, (hf b q').2, e0_group, e1_group]
  exact ⟨fun h => ⟨fun hq => (h hq).1, fun hq => (h hq).2⟩, fun h hq => ⟨h.1 hq, h.2 hq⟩⟩

/-! ## The largest value of the row, and its position -/

/-- The largest entry of each row. -/
def rowMax (c : Half) : Col :=
  shapeCast S256x1 (multiReduction .maximumf [1] S256 c 0xFF800000#32 reduces_S256x128_S256 (.inl rfl) rfl) shapeCasts_S256_S256x1

/-- The smallest entry of each row. -/
def rowMin (c : Half) : Col :=
  shapeCast S256x1 (multiReduction .minimumf [1] S256 c 0x7F800000#32 reduces_S256x128_S256 (.inl rfl) rfl) shapeCasts_S256_S256x1

theorem neg_inf : Ideal.ofBits .f32 0xFF800000#32 = (⊥ : EReal) := by simp [Ideal.ofBits, Ideal.ieee]

theorem pos_inf : Ideal.ofBits .f32 0x7F800000#32 = (⊤ : EReal) := by simp [Ideal.ofBits, Ideal.ieee]

theorem col_apply (v : FVec Ideal S256 .f32) (b : Fin 256) : shapeCast S256x1 v shapeCasts_S256_S256x1 (ix2 b 0) = v (ix1 b) :=
  shapeCast_apply _ _ _ _ (by
    rw [Shape.rowMajor_val_two, Shape.rowMajor_val_one]
    show b.val = b.val * 1 + 0
    omega)

theorem lift_row (b : Fin 256) (q : Fin 128) : reduces_S256x128_S256.lift (ix1 b) q = ix2 b q := by
  funext a
  match a with
  | ⟨0, _⟩ => exact Fin.ext (reduces_S256x128_S256.lift_val (ix1 b) q 0 |>.trans rfl)
  | ⟨1, _⟩ => exact Fin.ext (reduces_S256x128_S256.lift_val (ix1 b) q 1 |>.trans rfl)

theorem rowMax_le (c : Half) (b : Fin 256) (x : EReal) : rowMax c (ix2 b 0) ≤ x ↔ ∀ q : Fin 128, c (ix2 b q) ≤ x := by
  have h : rowMax c (ix2 b 0) = (Finset.univ : Finset (Fin 128)).fold max (Ideal.ofBits .f32 0xFF800000#32)
      (c ∘ reduces_S256x128_S256.lift (ix1 b)) :=
    (col_apply _ b).trans (Ideal.multiReduction_maximumf_single c _ reduces_S256x128_S256 (.inl rfl) rfl (ix1 b))
  rw [h, neg_inf]
  refine (Finset.fold_max_le (b := (⊥ : EReal)) x).trans ?_
  exact ⟨fun h q => (lift_row b q) ▸ h.2 q (Finset.mem_univ _), fun h => ⟨bot_le, fun q _ => ((lift_row b q).symm ▸ h q :)⟩⟩

theorem le_rowMin (c : Half) (b : Fin 256) (x : EReal) : x ≤ rowMin c (ix2 b 0) ↔ ∀ q : Fin 128, x ≤ c (ix2 b q) := by
  have h : rowMin c (ix2 b 0) = (Finset.univ : Finset (Fin 128)).fold min (Ideal.ofBits .f32 0x7F800000#32)
      (c ∘ reduces_S256x128_S256.lift (ix1 b)) :=
    (col_apply _ b).trans ((multiReduction_minimumf_eq_fold (F := Ideal) c _ reduces_S256x128_S256 (.inl rfl) rfl (ix1 b)).trans
      (reduces_S256x128_S256.fold_filter_drop_single _ _ c (ix1 b)))
  rw [h, pos_inf]
  refine (Finset.le_fold_min (b := (⊤ : EReal)) x).trans ?_
  exact ⟨fun h q => (lift_row b q) ▸ h.2 q (Finset.mem_univ _), fun h => ⟨le_top, fun q _ => ((lift_row b q).symm ▸ h q :)⟩⟩

theorem bcast_row {n : ℕ} (m : Col) (h : S256x1.Broadcasts ⟨2, ![256, n]⟩) (b : Fin 256) (q : Fin n) :
    broadcastTo ⟨2, ![256, n]⟩ m h (ix2 b q) = m (ix2 b 0) :=
  broadcastTo_apply m h _ _ fun a => match a with
    | ⟨0, _⟩ => rfl
    | ⟨1, _⟩ => rfl

/-- The lanes that reach the row's largest value. -/
def hit (w : Half) (m : Col) : IVec S256x128 1 := cmpf .oge w (broadcastTo S256x128 m broadcasts_S256x1_S256x128)

/-- Masking the marked lanes. -/
def drop (h : IVec S256x128 1) (w : Half) : Half := select h (broadcast S256x128 maskWord) w

/-- Masking the other lanes. -/
def keep (h : IVec S256x128 1) (w : Half) : Half := select h w (broadcast S256x128 maskWord)

/-- The lanes' numbers. -/
def lanes0 : Half := sitofp .f32 (iota .tc S256x128 32 [1] iota_S256x128_d1_w32)

/-- The same for the second half. -/
def lanes1 : Half := addf lanes0 (broadcast S256x128 (Scalar.ofBits .f32 0x43000000#32))

/-- The number of a marked lane, and a number beyond all of them elsewhere. -/
def number (h : IVec S256x128 1) (l : Half) : Half := select h l (broadcast S256x128 (Scalar.ofBits .f32 0x4E6E6B28#32))

theorem far : Ideal.ofBits .f32 0x4E6E6B28#32 = ((1000000000 : ℝ) : EReal) := by
  simp [Ideal.ofBits, Ideal.ieee, -EReal.coe_mul]; norm_num

theorem lanes0_apply (b : Fin 256) (q : Fin 128) : lanes0 (ix2 b q) = ((pos (e0 q) : ℝ) : EReal) := by
  unfold lanes0
  rw [sitofp_apply, iota_single_apply, pos_e0]
  show (((BitVec.ofNat 32 q.val).toInt : ℝ) : EReal) = _
  have hq := q.isLt
  have hn : (BitVec.ofNat 32 q.val).toNat = q.val := by rw [BitVec.toNat_ofNat, Nat.mod_eq_of_lt (by omega)]
  rw [BitVec.toInt_eq_toNat_of_lt (by rw [hn]; omega), hn]
  push_cast
  rfl

theorem lanes1_apply (b : Fin 256) (q : Fin 128) : lanes1 (ix2 b q) = ((pos (e1 q) : ℝ) : EReal) := by
  unfold lanes1
  rw [addf_apply, lanes0_apply, pos_e0, pos_e1]
  have h128 : Ideal.ofBits .f32 0x43000000#32 = ((128 : ℝ) : EReal) := by
    simp [Ideal.ofBits, Ideal.ieee, -EReal.coe_mul]; norm_num
  show ((q.val : ℝ) : EReal) + Ideal.ofBits .f32 0x43000000#32 = _
  rw [h128, ← EReal.coe_add]
  push_cast
  rfl

section Round

variable {w0 w1 : Half} {h0 h1 : IVec S256x128 1} {f : Fin 256 → Fin 256 → EReal} {P : Fin 256 → Fin 256 → Prop}

theorem rowMax_le_iff (hf : Holds w0 w1 f) (b : Fin 256) (x : EReal) :
    rowMax (maximumf w0 w1) (ix2 b 0) ≤ x ↔ ∀ e, f b e ≤ x := by
  rw [rowMax_le, forall_expert]
  refine forall_congr' fun q => ?_
  rw [maximumf_apply, max_le_iff, (hf b q).1, (hf b q).2]

theorem hit_marks (hf : Holds w0 w1 f) {m : Col} {g : Fin 256 → EReal} (hm : Is m g) :
    Marks (hit w0 m) (hit w1 m) fun b e => g b ≤ f b e := by
  intro b q
  unfold hit
  rw [cmpf_apply, cmpf_apply, bcast_row, hm b, Ideal.cmpf_def, Ideal.cmpf_def, cmp_oge, cmp_oge, (hf b q).1, (hf b q).2]
  exact ⟨Iff.rfl, Iff.rfl⟩

open Classical in
theorem drop_holds (hf : Holds w0 w1 f) (hP : Marks h0 h1 P) :
    Holds (drop h0 w0) (drop h1 w1) fun b e => if P b e then ⊥ else f b e := by
  intro b q
  unfold drop
  rw [select_apply, select_apply, broadcast_apply, maskWord_eq, select_if (hP b q).1, select_if (hP b q).2, (hf b q).1, (hf b q).2]
  exact ⟨rfl, rfl⟩

open Classical in
theorem keep_holds (hf : Holds w0 w1 f) (hP : Marks h0 h1 P) :
    Holds (keep h0 w0) (keep h1 w1) fun b e => if P b e then f b e else ⊥ := by
  intro b q
  unfold keep
  rw [select_apply, select_apply, broadcast_apply, maskWord_eq, select_if (hP b q).1, select_if (hP b q).2, (hf b q).1, (hf b q).2]
  exact ⟨rfl, rfl⟩

/-- When one expert of each row is marked, the smallest of the numbers is its position. -/
theorem rowMin_is {n : Fin 256 → Fin 256} (hP : Marks h0 h1 fun b e => e = n b) :
    Is (rowMin (minimumf (number h0 lanes0) (number h1 lanes1))) fun b => ((pos (n b) : ℝ) : EReal) := by
  classical
  intro b
  have hle : ∀ x : EReal, x ≤ rowMin (minimumf (number h0 lanes0) (number h1 lanes1)) (ix2 b 0)
      ↔ ∀ e, x ≤ if e = n b then ((pos e : ℝ) : EReal) else ((1000000000 : ℝ) : EReal) := by
    intro x
    rw [le_rowMin, forall_expert]
    refine forall_congr' fun q => ?_
    unfold number
    rw [minimumf_apply, le_min_iff, select_apply, select_apply, broadcast_apply, select_if (hP b q).1, select_if (hP b q).2,
      lanes0_apply, lanes1_apply]
    show _ ∧ _ ↔ _ ∧ _
    rw [← far]
    exact Iff.rfl
  refine le_antisymm ?_ ((hle _).mpr fun e => ?_)
  · have := (hle _).mp le_rfl (n b)
    rwa [if_pos rfl] at this
  · split
    · rename_i h; rw [h]
    · have hp := pos_lt (n b)
      have : ((pos (n b) : ℕ) : ℝ) ≤ 1000000000 := by
        have h' : pos (n b) ≤ 1000000000 := by omega
        exact_mod_cast h'
      exact EReal.coe_le_coe_iff.mpr this

end Round

end Cert.Lanes

end
-- ==== Proof.Rounds.lean ====
/- The kernel's two loops, one pass at a time. A pass of the first loop masks the largest of every group; after three of them the
   fourth largest of its group decides which experts are candidates. A pass of the second loop reads the largest candidate left
   in the row and its position, and masks it. -/
module

public import proofs.«01_k».proof.Proof.Lanes
public import proofs.«01_k».proof.Proof.Pick

@[expose] public section

noncomputable section

namespace Cert.Rounds

open Idealize.ShloMosaic Idealize.ShloMosaic.ValueIdx Cert.KernelIdeal Cert.KernelIdeal.Gen Cert.Lanes Cert.Rank Cert.Pick

variable {L : Fin 256 → Fin 256 → ℝ} (hL : ∀ b, Function.Injective (L b))

/-- The row with the `k` largest of each group masked. -/
def grouped (L : Fin 256 → Fin 256 → ℝ) (k : ℕ) (b e : Fin 256) : EReal := left (L b) (group (e.val / 32)) k e

/-- The row's candidates with the `k` largest masked. -/
def rest (L : Fin 256 → Fin 256 → ℝ) (k : ℕ) (b e : Fin 256) : EReal := left (L b) (cand (L b)) k e

theorem grouped_zero (b e : Fin 256) : grouped L 0 b e = (L b e : EReal) := by
  unfold grouped left
  rw [if_pos ⟨mem_group.mpr rfl, Nat.zero_le _⟩]

theorem Holds.congr {a0 a1 : Half} {f g : Fin 256 → Fin 256 → EReal} (h : Holds a0 a1 f) (hfg : ∀ b e, f b e = g b e) :
    Holds a0 a1 g := by
  intro b q
  rw [← hfg, ← hfg]
  exact h b q

theorem Marks.congr {a0 a1 : IVec S256x128 1} {f g : Fin 256 → Fin 256 → Prop} (h : Marks a0 a1 f) (hfg : ∀ b e, f b e ↔ g b e) :
    Marks a0 a1 g := by
  intro b q
  rw [← hfg, ← hfg]
  exact h b q

include hL

/-- The largest of a group with `k` masked is the expert of place `k`. -/
theorem groupMax_eq {a0 a1 : Half} {k : ℕ} (h : Holds a0 a1 (grouped L k)) (b : Fin 256) (q : Fin 128) {e : Fin 256}
    (he : e.val / 32 = q.val % 8) (hk : place (L b) e = k) : groupMax a0 a1 (ix2 b q) = (L b e : EReal) := by
  refine max_eq (L b) (A := group (e.val / 32)) (mem_group.mpr rfl) hk (T := group (e.val / 32)) (fun _ h => h) fun x => ?_
  rw [groupMax_le_iff h]
  refine forall_congr' fun e' => ?_
  rw [mem_group, he]
  refine imp_congr_right fun he' => ?_
  unfold grouped
  rw [he']

/-- A pass of the first loop. -/
theorem group_pass {a0 a1 : Half} {k : ℕ} (hk : k < 32) (h : Holds a0 a1 (grouped L k)) :
    Holds (drop (cmpf .oge a0 (groupMax a0 a1)) a0) (drop (cmpf .oge a1 (groupMax a0 a1)) a1) (grouped L (k + 1)) := by
  classical
  have hm : Marks (cmpf .oge a0 (groupMax a0 a1)) (cmpf .oge a1 (groupMax a0 a1))
      fun b e => ∀ e', e'.val / 32 = e.val / 32 → place (L b) e' = k → (L b e' : EReal) ≤ grouped L k b e := by
    intro b q
    have key : ∀ (a : Half) (e : Fin 256), a (ix2 b q) = grouped L k b e → e.val / 32 = q.val % 8 →
        (cmpf .oge a (groupMax a0 a1) (ix2 b q) = 1#1
          ↔ ∀ e', e'.val / 32 = e.val / 32 → place (L b) e' = k → (L b e' : EReal) ≤ grouped L k b e) := by
      intro a e ha he
      rw [cmpf_apply, Ideal.cmpf_def, cmp_oge, ha]
      constructor
      · intro hle e' he' hp
        rwa [groupMax_eq hL h b q (he'.trans he) hp] at hle
      · intro hall
        obtain ⟨e', he', hp⟩ := exists_place (hL b) (group_lt e) hk
        rw [groupMax_eq hL h b q (he'.trans he) hp]
        exact hall e' he' hp
    exact ⟨key a0 _ (h b q).1 (e0_group q), key a1 _ (h b q).2 (e1_group q)⟩
  refine Holds.congr (drop_holds h hm) fun b e => ?_
  obtain ⟨e', he', hp⟩ := exists_place (hL b) (group_lt e) hk
  have hA : e' ∈ group (e.val / 32) := mem_group.mpr he'
  have hr : rk (L b) (group (e.val / 32)) e' = k := by unfold place at hp; rwa [he'] at hp
  refine Eq.trans ?_ (left_succ (L b) (hL b) hA hr e (Or.inl (mem_group.mpr rfl)))
  by_cases hle : (L b e' : EReal) ≤ left (L b) (group (e.val / 32)) k e
  · rw [if_pos hle]
    refine if_pos fun e'' he'' hp'' => ?_
    have hr'' : rk (L b) (group (e.val / 32)) e'' = k := by unfold place at hp''; rwa [he''] at hp''
    rw [rk_inj (L b) (hL b) (mem_group.mpr he'') hA (hr''.trans hr.symm)]
    exact hle
  · rw [if_neg hle]
    exact if_neg fun hall => hle (hall e' he' hp)

/-- What the fourth largest of each group decides. -/
theorem candidates {a0 a1 l0 l1 : Half} (h : Holds a0 a1 (grouped L 3)) (hl : Holds l0 l1 fun b e => (L b e : EReal)) :
    Holds (keep (cmpf .oge l0 (groupMax a0 a1)) l0) (keep (cmpf .oge l1 (groupMax a0 a1)) l1) (rest L 0) := by
  classical
  have hm : Marks (cmpf .oge l0 (groupMax a0 a1)) (cmpf .oge l1 (groupMax a0 a1)) fun b e => e ∈ cand (L b) := by
    intro b q
    have key : ∀ (a : Half) (e : Fin 256), a (ix2 b q) = (L b e : EReal) → e.val / 32 = q.val % 8 →
        (cmpf .oge a (groupMax a0 a1) (ix2 b q) = 1#1 ↔ e ∈ cand (L b)) := by
      intro a e ha he
      obtain ⟨e', he', hp⟩ := exists_place (hL b) (group_lt e) (k := 3) (by omega)
      rw [cmpf_apply, Ideal.cmpf_def, cmp_oge, ha, groupMax_eq hL h b q (he'.trans he) hp, EReal.coe_le_coe_iff, mem_cand]
      constructor
      · intro hle
        have := rk_le_rk (L b) (A := group (e.val / 32)) hle
        unfold place at hp ⊢
        rw [he'] at hp
        omega
      · intro hlt
        by_contra hnot
        have := rk_lt_rk (L b) (A := group (e.val / 32)) (mem_group.mpr he') (not_le.mp hnot)
        unfold place at hp hlt
        rw [he'] at hp
        omega
    exact ⟨key l0 _ (hl b q).1 (e0_group q), key l1 _ (hl b q).2 (e1_group q)⟩
  refine Holds.congr (keep_holds hl hm) fun b e => ?_
  unfold rest left
  by_cases he : e ∈ cand (L b)
  · rw [if_pos he, if_pos ⟨he, Nat.zero_le _⟩]
  · rw [if_neg he, if_neg fun h => he h.1]

/-- The largest candidate left. -/
theorem rowMax_is {w0 w1 : Half} {k : ℕ} (hk : k < 32) (h : Holds w0 w1 (rest L k)) :
    Is (rowMax (maximumf w0 w1)) fun b => (L b (nth (L b) k) : EReal) := by
  intro b
  have hn := nth_spec (hL b) hk
  refine max_eq (L b) hn.1 hn.2 (T := Finset.univ) (fun _ _ => Finset.mem_univ _) fun x => ?_
  rw [rowMax_le_iff h]
  exact ⟨fun hx e _ => hx e, fun hx e => hx e (Finset.mem_univ _)⟩

/-- The lane that reaches it. -/
theorem hit_is {w0 w1 : Half} {k : ℕ} (hk : k < 32) (h : Holds w0 w1 (rest L k)) {m : Col}
    (hm : Is m fun b => (L b (nth (L b) k) : EReal)) : Marks (hit w0 m) (hit w1 m) fun b e => e = nth (L b) k := by
  refine Marks.congr (hit_marks h hm) fun b e => ?_
  have hn := nth_spec (hL b) hk
  exact le_left_iff (L b) (hL b) hn.1 hn.2 e

/-- Masking it. -/
theorem row_pass {w0 w1 : Half} {k : ℕ} (hk : k < 32) (h : Holds w0 w1 (rest L k)) {h0 h1 : IVec S256x128 1}
    (hm : Marks h0 h1 fun b e => e = nth (L b) k) : Holds (drop h0 w0) (drop h1 w1) (rest L (k + 1)) := by
  classical
  refine Holds.congr (drop_holds h hm) fun b e => ?_
  have hn := nth_spec (hL b) hk
  have hs := left_succ (L b) (hL b) hn.1 hn.2 e
    ((em (e ∈ cand (L b))).imp id fun he heq => he (heq ▸ hn.1))
  refine Eq.trans ?_ hs
  by_cases he : e = nth (L b) k
  · rw [if_pos he, if_pos ((le_left_iff (L b) (hL b) hn.1 hn.2 e).mpr he)]
  · rw [if_neg he, if_neg fun h => he ((le_left_iff (L b) (hL b) hn.1 hn.2 e).mp h)]
    rfl

/-- After eight passes the masked candidates are the chosen experts. -/
theorem chosen_marks {w0 w1 c0 c1 : Half} (hw : Holds w0 w1 (rest L 8)) (hc : Holds c0 c1 (rest L 0)) :
    Marks (cmpf .one w0 c0) (cmpf .one w1 c1) fun b e => Chosen (L b) e := by
  have key : ∀ (b e : Fin 256), rest L 8 b e ≠ rest L 0 b e ↔ Chosen (L b) e := by
    intro b e
    unfold rest left Chosen
    by_cases he : e ∈ cand (L b)
    · by_cases hr : 8 ≤ rk (L b) (cand (L b)) e
      · rw [if_pos ⟨he, hr⟩, if_pos ⟨he, Nat.zero_le _⟩]
        exact ⟨fun h => absurd rfl h, fun h => absurd h.2 (by omega)⟩
      · rw [if_neg (fun h => hr h.2), if_pos ⟨he, Nat.zero_le _⟩]
        exact ⟨fun _ => ⟨he, by omega⟩, fun _ => (EReal.coe_ne_bot _).symm⟩
    · rw [if_neg (fun h => he h.1), if_neg (fun h => he h.1)]
      exact ⟨fun h => absurd rfl h, fun h => absurd h.1 he⟩
  intro b q
  rw [cmpf_apply, cmpf_apply, Ideal.cmpf_def, Ideal.cmpf_def, cmp_one, cmp_one, (hw b q).1, (hw b q).2, (hc b q).1, (hc b q).2]
  exact ⟨key b _, key b _⟩

end Cert.Rounds

end
-- ==== Proof.Block.lean ====
/- What the kernel computes from one block of 256 tokens: its values by their printed names, over the block of inputs and the
   weights, and what they are when the 256 logits of each token are real and different: the candidates masked pass by pass,
   the largest of each pass, its position, the indices and the weights of the block. -/
module

public import proofs.«01_k».proof.Proof.Rounds
public import Mathlib.Algebra.BigOperators.Fin

@[expose] public section

noncomputable section

namespace Cert.Block

open Idealize.ShloMosaic Idealize.ShloMosaic.ValueIdx Cert.KernelIdeal Cert.KernelIdeal.Gen Cert.Lanes Cert.Rank Cert.Pick
open Cert.Rounds

/-! ## The values by name -/

section Names

variable (X : Vec Ideal S256x2048 .f32) (W : Vec Ideal S2048x256 .f32)

abbrev v7 : Half := k0_pay8 X W
abbrev v8 : Half := k0_pay9 X W
abbrev v35 : Half := k0_pay14 X W
abbrev v38 : Half := k0_pay15 X W
abbrev v65 : Half := k0_pay17 (v7 X W) (v35 X W) (v38 X W)
abbrev v68 : Half := k0_pay18 (v8 X W) (v35 X W) (v38 X W)
abbrev v70 : Half := k0_pay19 (F := Ideal)
abbrev v72 : Half := k0_pay20 (F := Ideal)
abbrev v75 : Col := k0_pay21 (v7 X W) (v8 X W) (v35 X W) (v38 X W)
abbrev v77 : IVec S256x128 1 := k0_pay22 (v7 X W) (v8 X W) (v35 X W) (v38 X W)
abbrev v79 : IVec S256x128 1 := k0_pay23 (v7 X W) (v8 X W) (v35 X W) (v38 X W)
abbrev v81 : Half := k0_pay24 (v7 X W) (v8 X W) (v35 X W) (v38 X W)
abbrev v82 : Half := k0_pay25 (F := Ideal)
abbrev v86 : Col := k0_pay26 v72 (v79 X W) (v81 X W) v82
abbrev v93 : Col := k0_pay29 (v65 X W) (v68 X W) (v77 X W) (v79 X W)
abbrev v104 : Col := k0_pay32 (v65 X W) (v68 X W) v70 v72 (v77 X W) (v79 X W)
abbrev v111 : Col := k0_pay35 (v65 X W) (v68 X W) (v77 X W) (v79 X W)
abbrev v122 : Col := k0_pay38 (v65 X W) (v68 X W) v70 v72 (v77 X W) (v79 X W)
abbrev v124 : Half := k0_pay39 (v65 X W) (v68 X W) (v77 X W) (v79 X W)
abbrev v126 : Half := k0_pay40 (v65 X W) (v68 X W) (v77 X W) (v79 X W)
abbrev v127 : Half := k0_pay41 (v65 X W) (v68 X W) (v77 X W) (v79 X W)
abbrev v129 : Col := k0_pay42 (v127 X W)
abbrev v140 : Col := k0_pay45 v70 v72 (v124 X W) (v126 X W) (v127 X W)
abbrev v147 : Col := k0_pay48 (v124 X W) (v126 X W) (v127 X W)
abbrev v158 : Col := k0_pay51 v70 v72 (v124 X W) (v126 X W) (v127 X W)
abbrev v160 : Half := k0_pay52 (v124 X W) (v126 X W) (v127 X W)
abbrev v162 : Half := k0_pay53 (v124 X W) (v126 X W) (v127 X W)
abbrev v165 : Col := k0_pay54 (v124 X W) (v126 X W) (v127 X W)
abbrev v167 : IVec S256x128 1 := k0_pay55 (v124 X W) (v126 X W) (v127 X W)
abbrev v169 : IVec S256x128 1 := k0_pay56 (v124 X W) (v126 X W) (v127 X W)
abbrev v171 : Half := k0_pay57 v70 (v124 X W) (v126 X W) (v127 X W)
abbrev v172 : Half := k0_pay58 (F := Ideal)
abbrev v176 : Col := k0_pay59 v72 (v169 X W) (v171 X W) v172
abbrev v194 : Col := k0_pay65 v70 v72 (v160 X W) (v162 X W) (v167 X W) (v169 X W)
abbrev v212 : Col := k0_pay71 v70 v72 (v160 X W) (v162 X W) (v167 X W) (v169 X W)
abbrev v214 : Half := k0_pay72 (v160 X W) (v162 X W) (v167 X W) (v169 X W)
abbrev v216 : Half := k0_pay73 (v160 X W) (v162 X W) (v167 X W) (v169 X W)
abbrev v217 : FVec Ideal S256x8 .f32 :=
  k0_pay74 (v75 X W) (v93 X W) (v111 X W) (v129 X W) (v147 X W) (v160 X W) (v162 X W) (v165 X W) (v167 X W) (v169 X W)

/-- The block's expert indices. -/
abbrev v226 : IVec S256x8 32 :=
  k0_pay75 (v86 X W) (v104 X W) (v122 X W) (v140 X W) (v158 X W) (v176 X W) (v194 X W) (v212 X W)

/-- The block's weights. -/
abbrev v233 : FVec Ideal S256x8 .f32 := k0_pay76 (v217 X W)

end Names

variable {X : Vec Ideal S256x2048 .f32} {W : Vec Ideal S2048x256 .f32}
variable {L : Fin 256 → Fin 256 → ℝ} (hL : ∀ b, Function.Injective (L b))

/-- What one pass of the second loop has, with `k` candidates masked before it. -/
structure Pass (L : Fin 256 → Fin 256 → ℝ) (k : ℕ) (w0 w1 : Half) (m : Col) (h0 h1 : IVec S256x128 1) (i : Col) : Prop where
  max : Is m fun b => (L b (nth (L b) k) : EReal)
  arg : Is i fun b => ((pos (nth (L b) k) : ℝ) : EReal)
  next : Holds (drop h0 w0) (drop h1 w1) (rest L (k + 1))

include hL in
theorem pass {k : ℕ} (hk : k < 32) {w0 w1 : Half} (h : Holds w0 w1 (rest L k)) :
    Pass L k w0 w1 (rowMax (maximumf w0 w1)) (hit w0 (rowMax (maximumf w0 w1))) (hit w1 (rowMax (maximumf w0 w1)))
      (rowMin (minimumf (number (hit w0 (rowMax (maximumf w0 w1))) lanes0) (number (hit w1 (rowMax (maximumf w0 w1))) lanes1))) := by
  have hm := rowMax_is hL hk h
  have hh := hit_is hL hk h hm
  exact ⟨hm, rowMin_is hh, row_pass hL hk h hh⟩

section Passes

variable (hlog : Holds (v7 X W) (v8 X W) fun b e => (L b e : EReal))

include hL hlog

theorem holds_two : Holds (v35 X W) (v38 X W) (grouped L 2) := by
  have h0 : Holds (v7 X W) (v8 X W) (grouped L 0) := Holds.congr hlog fun b e => (grouped_zero b e).symm
  have h1 : Holds (k0_pay11 X W) (k0_pay12 X W) (grouped L 1) := group_pass hL (by omega) h0
  exact group_pass hL (by omega) h1

theorem holds_cand : Holds (v65 X W) (v68 X W) (rest L 0) :=
  candidates hL (group_pass hL (by omega) (holds_two hL hlog)) hlog

theorem pass0 : Pass L 0 (v65 X W) (v68 X W) (v75 X W) (v77 X W) (v79 X W) (v86 X W) :=
  pass hL (by omega) (holds_cand hL hlog)

theorem pass1 : Pass L 1 (k0_pay27 (v65 X W) (v77 X W)) (k0_pay28 (v68 X W) (v79 X W)) (v93 X W)
    (k0_pay30 (v65 X W) (v68 X W) (v77 X W) (v79 X W)) (k0_pay31 (v65 X W) (v68 X W) (v77 X W) (v79 X W)) (v104 X W) :=
  pass hL (by omega) (pass0 hL hlog).next

theorem pass2 : Pass L 2 (k0_pay33 (v65 X W) (v68 X W) (v77 X W) (v79 X W)) (k0_pay34 (v65 X W) (v68 X W) (v77 X W) (v79 X W))
    (v111 X W) (k0_pay36 (v65 X W) (v68 X W) (v77 X W) (v79 X W)) (k0_pay37 (v65 X W) (v68 X W) (v77 X W) (v79 X W)) (v122 X W) :=
  pass hL (by omega) (pass1 hL hlog).next

theorem pass3 : Pass L 3 (v124 X W) (v126 X W) (v129 X W) (k0_pay43 (v124 X W) (v127 X W)) (k0_pay44 (v126 X W) (v127 X W)) (v140 X W) :=
  pass hL (by omega) (pass2 hL hlog).next

theorem pass4 : Pass L 4 (k0_pay46 (v124 X W) (v127 X W)) (k0_pay47 (v126 X W) (v127 X W)) (v147 X W)
    (k0_pay49 (v124 X W) (v126 X W) (v127 X W)) (k0_pay50 (v124 X W) (v126 X W) (v127 X W)) (v158 X W) :=
  pass hL (by omega) (pass3 hL hlog).next

theorem pass5 : Pass L 5 (v160 X W) (v162 X W) (v165 X W) (v167 X W) (v169 X W) (v176 X W) :=
  pass hL (by omega) (pass4 hL hlog).next

theorem pass6 : Pass L 6 (k0_pay60 (v160 X W) (v167 X W)) (k0_pay61 (v162 X W) (v169 X W))
    (k0_pay62 (v160 X W) (v162 X W) (v167 X W) (v169 X W)) (k0_pay63 (v160 X W) (v162 X W) (v167 X W) (v169 X W))
    (k0_pay64 (v160 X W) (v162 X W) (v167 X W) (v169 X W)) (v194 X W) :=
  pass hL (by omega) (pass5 hL hlog).next

theorem pass7 : Pass L 7 (k0_pay66 (v160 X W) (v162 X W) (v167 X W) (v169 X W)) (k0_pay67 (v160 X W) (v162 X W) (v167 X W) (v169 X W))
    (k0_pay68 (v160 X W) (v162 X W) (v167 X W) (v169 X W)) (k0_pay69 (v160 X W) (v162 X W) (v167 X W) (v169 X W))
    (k0_pay70 (v160 X W) (v162 X W) (v167 X W) (v169 X W)) (v212 X W) :=
  pass hL (by omega) (pass6 hL hlog).next

/-- After the last pass. -/
theorem holds_end : Holds (v214 X W) (v216 X W) (rest L 8) := (pass7 hL hlog).next

end Passes

/-! ## The indices -/

/-- Eight columns side by side, read at an entry. -/
theorem columns_apply (c0 c1 c2 c3 c4 c5 c6 c7 : Col) (g : ℕ → Fin 256 → EReal) (h0 : Is c0 (g 0)) (h1 : Is c1 (g 1))
    (h2 : Is c2 (g 2)) (h3 : Is c3 (g 3)) (h4 : Is c4 (g 4)) (h5 : Is c5 (g 5)) (h6 : Is c6 (g 6)) (h7 : Is c7 (g 7))
    (b : Fin 256) (k : Fin 8) :
    concatenate S256x8 1 [⟨S256x1, c0⟩, ⟨S256x1, c1⟩, ⟨S256x1, c2⟩, ⟨S256x1, c3⟩, ⟨S256x1, c4⟩, ⟨S256x1, c5⟩, ⟨S256x1, c6⟩, ⟨S256x1, c7⟩]
      concatenates_S256x1_S256x1_S256x1_S256x1_S256x1_S256x1_S256x1_S256x1_S256x8_d1 (ix2 b k) = g k.val b := by
  have hcol : ∀ n : Fin 8, Is (![c0, c1, c2, c3, c4, c5, c6, c7] n) (g n.val) := by
    intro n
    match n with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
  refine Eq.trans ?_ (hcol k b)
  exact concatenate_ofFn_unit_apply (t := S256x8) (s₁ := S256x1) (1 : Fin 2) ![c0, c1, c2, c3, c4, c5, c6, c7]
    concatenates_S256x1_S256x1_S256x1_S256x1_S256x1_S256x1_S256x1_S256x1_S256x8_d1 rfl rfl (ix2 b k) k rfl (ix2 b 0)
    fun a ha => match a with
    | ⟨0, _⟩ => rfl
    | ⟨1, _⟩ => absurd rfl ha

/-- A position as a word. -/
theorem fptosi_pos (n : ℕ) (hn : n < 256) : Ideal.fptosi 32 ((n : ℝ) : EReal) = BitVec.ofNat 32 n := by
  have hfloor : ⌊(n : ℝ)⌋ = (n : ℤ) := Int.floor_natCast n
  unfold Ideal.fptosi
  show BitVec.ofInt 32 (max _ (min _ (if (0 : ℝ) ≤ (n : ℝ) then ⌊(n : ℝ)⌋ else ⌈(n : ℝ)⌉))) = _
  rw [if_pos (Nat.cast_nonneg n), hfloor, min_eq_right (by norm_num; omega), max_eq_right (by norm_num)]
  rfl

/-- The expert at a position. -/
def decode (w : BitVec 32) : BitVec 32 :=
  IntOp.addi (IntOp.muli (IntOp.andi w 7#32) 32#32) (IntOp.shrsi .vector w 3#32)

theorem decode_pos : ∀ e : Fin 256, decode (BitVec.ofNat 32 (pos e)) = BitVec.ofNat 32 e.val := by decide

include hL in
theorem index_apply (hlog : Holds (v7 X W) (v8 X W) fun b e => (L b e : EReal)) (b : Fin 256) (k : Fin 8) :
    v226 X W (ix2 b k) = BitVec.ofNat 32 (nth (L b) k.val).val := by
  have hcat := columns_apply _ _ _ _ _ _ _ _ (fun k b => ((pos (nth (L b) k) : ℝ) : EReal)) (pass0 hL hlog).arg (pass1 hL hlog).arg
    (pass2 hL hlog).arg (pass3 hL hlog).arg (pass4 hL hlog).arg (pass5 hL hlog).arg (pass6 hL hlog).arg (pass7 hL hlog).arg b k
  refine (congrArg (fun x => decode (Ideal.fptosi 32 x)) hcat : v226 X W (ix2 b k) = _).trans ?_
  show decode (Ideal.fptosi 32 ((pos (nth (L b) k.val) : ℝ) : EReal)) = _
  rw [fptosi_pos _ (pos_lt _), decode_pos]

/-! ## The weights -/

include hL in
theorem top_apply (hlog : Holds (v7 X W) (v8 X W) fun b e => (L b e : EReal)) (b : Fin 256) (k : Fin 8) :
    v217 X W (ix2 b k) = (L b (nth (L b) k.val) : EReal) := by
  exact columns_apply _ _ _ _ _ _ _ _ (fun k b => (L b (nth (L b) k) : EReal)) (pass0 hL hlog).max (pass1 hL hlog).max
    (pass2 hL hlog).max (pass3 hL hlog).max (pass4 hL hlog).max (pass5 hL hlog).max (pass6 hL hlog).max (pass7 hL hlog).max b k

theorem lift_eight (b : Fin 256) (k : Fin 8) : reduces_S256x8_S256.lift (ix1 b) k = ix2 b k := by
  funext a
  match a with
  | ⟨0, _⟩ => exact Fin.ext (reduces_S256x8_S256.lift_val (ix1 b) k 0 |>.trans rfl)
  | ⟨1, _⟩ => exact Fin.ext (reduces_S256x8_S256.lift_val (ix1 b) k 1 |>.trans rfl)

/-- The small number added to the sum of the weights. -/
abbrev tiny : EReal := Ideal.ofBits .f32 0x1E3CE508#32

include hL in
theorem weight_apply (hlog : Holds (v7 X W) (v8 X W) fun b e => (L b e : EReal)) (b : Fin 256) (k : Fin 8) :
    v233 X W (ix2 b k)
      = Ideal.div (L b (nth (L b) k.val) : EReal) ((∑ j : Fin 8, (L b (nth (L b) j.val) : EReal)) + tiny) := by
  have hsum : ∀ v : FVec Ideal S256x8 .f32, shapeCast S256x1 (multiReduction .add [1] S256 v 0x00000000#32 reduces_S256x8_S256
      (.inl rfl) rfl) shapeCasts_S256_S256x1 (ix2 b 0) = ∑ j : Fin 8, v (ix2 b j) := fun v =>
    (col_apply _ b).trans ((Ideal.multiReduction_add_single v _ reduces_S256x8_S256 (.inl rfl) rfl (ix1 b)).trans
      (Finset.sum_congr rfl fun j _ => congrArg v (lift_eight b j)))
  refine Eq.trans (b := Ideal.div (v217 X W (ix2 b k)) (broadcastTo S256x8 (addf (shapeCast S256x1 (multiReduction .add [1] S256
    (v217 X W) 0x00000000#32 reduces_S256x8_S256 (.inl rfl) rfl) shapeCasts_S256_S256x1)
    (broadcast S256x1 (Scalar.ofBits .f32 0x1E3CE508#32))) broadcasts_S256x1_S256x8 (ix2 b k))) rfl ?_
  rw [bcast_row, addf_apply, hsum, broadcast_apply, top_apply hL hlog]
  simp only [top_apply hL hlog]
  rfl

end Cert.Block

end
-- ==== Proof.Sums.lean ====
/- What the kernel adds up over one block of 256 tokens, expert by expert: the softmax of the logits, and how many tokens chose
   the expert. -/
module

public import proofs.«01_k».proof.Proof.Block
public import Mathlib.Analysis.SpecialFunctions.Exp

@[expose] public section

noncomputable section

namespace Cert.Sums

open Idealize.ShloMosaic Idealize.ShloMosaic.ValueIdx Cert.KernelIdeal Cert.KernelIdeal.Gen Cert.Lanes Cert.Rank Cert.Pick
open Cert.Rounds Cert.Block

/-- A sum over both halves' lanes is one over the experts. -/
theorem sum_lanes {M : Type} [AddCommMonoid M] (f : Fin 256 → M) : ∑ q : Fin 128, (f (e0 q) + f (e1 q)) = ∑ e, f e := by
  have hinj : Function.Injective (Sum.elim e0 e1 : Fin 128 ⊕ Fin 128 → Fin 256) := by
    rintro (q | q) (r | r) h
    · have := congrArg pos (show e0 q = e0 r from h)
      rw [pos_e0, pos_e0] at this
      exact congrArg _ (Fin.ext this)
    · have := congrArg pos (show e0 q = e1 r from h)
      rw [pos_e0, pos_e1] at this
      have := q.isLt
      omega
    · have := congrArg pos (show e1 q = e0 r from h)
      rw [pos_e0, pos_e1] at this
      have := r.isLt
      omega
    · have := congrArg pos (show e1 q = e1 r from h)
      rw [pos_e1, pos_e1] at this
      exact congrArg _ (Fin.ext (by omega))
  have hbij : Function.Bijective (Sum.elim e0 e1 : Fin 128 ⊕ Fin 128 → Fin 256) :=
    (Fintype.bijective_iff_injective_and_card _).mpr ⟨hinj, by simp⟩
  rw [Finset.sum_add_distrib, ← hbij.sum_comp f, Fintype.sum_sum_type]
  rfl

/-- One number for each lane. -/
abbrev Row := FVec Ideal S1x128 .f32

/-- The two rows of 128 lanes hold `f expert`. -/
def RowHolds (a0 a1 : Row) (f : Fin 256 → EReal) : Prop := ∀ q, a0 (ix2 0 q) = f (e0 q) ∧ a1 (ix2 0 q) = f (e1 q)

/-- The sums over the block's tokens, added to what a row held. -/
def addRows (p : Row) (a : Half) : Row :=
  shapeCast S1x128 (addf p (shapeCast S1x128 (multiReduction .add [0] S128 a 0x00000000#32 reduces_S256x128_S128 (.inl rfl) rfl)
    shapeCasts_S128_S1x128)) shapeCasts_S1x128_S1x128

theorem lift_col (q : Fin 128) (b : Fin 256) : reduces_S256x128_S128.lift (ix1 q) b = ix2 b q := by
  funext a
  match a with
  | ⟨0, _⟩ => exact Fin.ext (reduces_S256x128_S128.lift_val (ix1 q) b 0 |>.trans rfl)
  | ⟨1, _⟩ => exact Fin.ext (reduces_S256x128_S128.lift_val (ix1 q) b 1 |>.trans rfl)

theorem addRows_apply (p : Row) (a : Half) (q : Fin 128) : addRows p a (ix2 0 q) = p (ix2 0 q) + ∑ b : Fin 256, a (ix2 b q) := by
  unfold addRows
  rw [shapeCast_self, addf_apply]
  refine congrArg (p (ix2 0 q) + ·) ((shapeCast_apply _ _ (ix2 0 q) (ix1 q) (by
    rw [Shape.rowMajor_val_two, Shape.rowMajor_val_one]
    show q.val = 0 * 128 + q.val
    omega)).trans ((Ideal.multiReduction_add_single a _ reduces_S256x128_S128 (.inl rfl) rfl (ix1 q)).trans
      (Finset.sum_congr rfl fun b _ => congrArg a (lift_col q b))))

theorem addRows_holds {p0 p1 : Row} {a0 a1 : Half} {f : Fin 256 → EReal} {g : Fin 256 → Fin 256 → EReal} (hp : RowHolds p0 p1 f)
    (ha : Holds a0 a1 g) : RowHolds (addRows p0 a0) (addRows p1 a1) fun e => f e + ∑ b, g b e := by
  intro q
  rw [addRows_apply, addRows_apply, (hp q).1, (hp q).2]
  exact ⟨congrArg _ (Finset.sum_congr rfl fun b _ => (ha b q).1), congrArg _ (Finset.sum_congr rfl fun b _ => (ha b q).2)⟩

/-- The softmax of a token's logits. -/
def prob (L : Fin 256 → ℝ) (e : Fin 256) : ℝ := Real.exp (L e) / ∑ e', Real.exp (L e')

open Classical in
/-- One for a chosen expert, zero for another. -/
def mark (L : Fin 256 → ℝ) (e : Fin 256) : ℝ := if Chosen L e then 1 else 0

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_exp_pos (L : Fin 256 → ℝ) : 0 < ∑ e', Real.exp (L e') :=
  Finset.sum_pos (fun e _ => Real.exp_pos _) ⟨0, Finset.mem_univ _⟩

theorem one_f32 : Ideal.ofBits .f32 0x3F800000#32 = ((1 : ℝ) : EReal) := by
  simp [Ideal.ofBits, Ideal.ieee, -EReal.coe_mul]
  norm_num

section Values

variable {L : Fin 256 → Fin 256 → ℝ} {l0 l1 : Half} (hlog : Holds l0 l1 fun b e => (L b e : EReal))

include hlog

theorem exp_holds : Holds (k0_pay77 l0) (k0_pay78 l1) fun b e => ((Real.exp (L b e) : ℝ) : EReal) := by
  intro b q
  constructor
  · show Ideal.exp (l0 (ix2 b q)) = _
    rw [(hlog b q).1, Ideal.exp_coe]
  · show Ideal.exp (l1 (ix2 b q)) = _
    rw [(hlog b q).2, Ideal.exp_coe]

theorem inv_is : Is (k0_pay79 l0 l1) fun b => ((1 / ∑ e', Real.exp (L b e') : ℝ) : EReal) := by
  intro b
  have hsum : shapeCast S256x1 (multiReduction .add [1] S256 (addf (k0_pay77 l0) (k0_pay78 l1)) 0x00000000#32 reduces_S256x128_S256
      (.inl rfl) rfl) shapeCasts_S256_S256x1 (ix2 b 0) = ((∑ e', Real.exp (L b e') : ℝ) : EReal) := by
    refine (col_apply _ b).trans ((Ideal.multiReduction_add_single _ _ reduces_S256x128_S256 (.inl rfl) rfl (ix1 b)).trans ?_)
    rw [coe_sum, ← sum_lanes fun e => ((Real.exp (L b e) : ℝ) : EReal)]
    have key : ∀ q : Fin 128, addf (k0_pay77 l0) (k0_pay78 l1) (ix2 b q)
        = ((Real.exp (L b (e0 q)) : ℝ) : EReal) + ((Real.exp (L b (e1 q)) : ℝ) : EReal) := fun q => by
      rw [addf_apply, (exp_holds hlog b q).1, (exp_holds hlog b q).2]
    exact Finset.sum_congr rfl fun q _ => (congrArg (addf (k0_pay77 l0) (k0_pay78 l1)) (lift_row b q)).trans (key q)
  refine Eq.trans (b := Ideal.div (Ideal.ofBits .f32 0x3F800000#32) (shapeCast S256x1 (multiReduction .add [1] S256
    (addf (k0_pay77 l0) (k0_pay78 l1)) 0x00000000#32 reduces_S256x128_S256 (.inl rfl) rfl) shapeCasts_S256_S256x1 (ix2 b 0))) rfl ?_
  rw [hsum, one_f32, Ideal.div_coe (sum_exp_pos (L b)).ne', ← EReal.coe_mul, one_mul]

theorem prob_holds : Holds (mulf (k0_pay77 l0) (broadcastTo S256x128 (k0_pay79 l0 l1) broadcasts_S256x1_S256x128))
    (mulf (k0_pay78 l1) (broadcastTo S256x128 (k0_pay79 l0 l1) broadcasts_S256x1_S256x128)) fun b e => (prob (L b) e : EReal) := by
  intro b q
  rw [mulf_apply, mulf_apply, bcast_row, inv_is hlog b, (exp_holds hlog b q).1, (exp_holds hlog b q).2, ← EReal.coe_mul,
    ← EReal.coe_mul]
  unfold prob
  rw [mul_one_div, mul_one_div]
  exact ⟨rfl, rfl⟩

/-- The softmax added up. -/
theorem psum_holds {p0 p1 : Row} {f : Fin 256 → EReal} (hp : RowHolds p0 p1 f) :
    RowHolds (k0_pay82 l0 l1 p0) (k0_pay1 (k0_pay78 l1) (k0_pay79 l0 l1) p1) fun e => f e + ∑ b, (prob (L b) e : EReal) :=
  addRows_holds hp (prob_holds hlog)

omit hlog in
theorem mark_holds {w0 w1 c0 c1 : Half} (h : Marks (cmpf .one w0 c0) (cmpf .one w1 c1) fun b e => Chosen (L b) e) :
    Holds (k0_pay80 c0 w0) (k0_pay81 c1 w1) fun b e => (mark (L b) e : EReal) := by
  have key : ∀ (c : BitVec 1) (P : Fin 256 → ℝ) (e : Fin 256), (c = 1#1 ↔ Chosen P e) →
      (((c.setWidth 32).toInt : ℝ) : EReal) = (mark P e : EReal) := by
    intro c P e hc
    unfold mark
    by_cases hP : Chosen P e
    · rw [if_pos hP, hc.mpr hP]
      norm_num
    · rw [if_neg hP, eq_zero_of_ne_one fun h => hP (hc.mp h)]
      norm_num
  intro b q
  exact ⟨key _ _ _ (h b q).1, key _ _ _ (h b q).2⟩

omit hlog in
/-- The choices added up. -/
theorem count_holds {w0 w1 c0 c1 : Half} (h : Marks (cmpf .one w0 c0) (cmpf .one w1 c1) fun b e => Chosen (L b) e) {p0 p1 : Row}
    {f : Fin 256 → EReal} (hp : RowHolds p0 p1 f) :
    RowHolds (k0_pay2 (k0_pay80 c0 w0) p0) (k0_pay3 (k0_pay81 c1 w1) p1) fun e => f e + ∑ b, (mark (L b) e : EReal) :=
  addRows_holds hp (mark_holds h)

end Values

end Cert.Sums

end
-- ==== Proof.Weights.lean ====
/- The arrays the kernel's grid points read: the rows of the hidden states, and the weights after the host has gathered their
   rows into the kernel's order of experts and transposed them. -/
module

public import proofs.«01_k».proof.Proof.Sums
public import proofs.«01_k».proof.Proof.Gen.KernelIdeal.Frame
public import Idealize.ShloMosaic.Lib.Claim

@[expose] public section

noncomputable section

namespace Cert.Weights

open Idealize.ShloMosaic Idealize.ShloMosaic.ValueIdx Idealize.ShloMosaic.TcCoe Idealize.SL.Sem
open Cert.KernelIdeal Cert.KernelIdeal.Gen Cert.Lanes

/-- The expert whose row stands at place `p` of the gathered weights. -/
def at' (p : Fin 256) : Fin 256 := ⟨p.val % 8 * 32 + p.val / 8, by omega⟩

/-- The table of row numbers, read as numbers. -/
theorem table (p : Fin 256) : min (lit0 p).toInt.toNat 255 = (at' p).val := by
  revert p
  decide +kernel

/-- A gather of whole rows of a matrix: row `p` of the result is the row whose number, clamped into the matrix, is entry `p`
    of the list of row numbers. -/
theorem gather_rows (x : S256x2048.Idx → EReal) (idx : IVec S256x1 32) (p : Fin 256) (k : Fin 2048) :
    Host.gather gather_S256x2048_S256x1_S256x2048_1_0_n_n_0_1_12048 x idx (ix2 p k)
      = x (ix2 ⟨min (idx (ix2 p 0)).toInt.toNat 255, by omega⟩ k) := by
  unfold Host.gather
  congr 1
  funext a
  apply Fin.ext
  show GatherDims.start _ (ix2 p k) idx a + GatherDims.batchCoord _ (ix2 p k) a + GatherDims.offCoord _ (ix2 p k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ fun h => ((GatherDims.mem_sKept _ _).mp h).1 (List.mem_singleton.mpr rfl)]
    unfold GatherDims.start
    rw [dif_pos (show (0 : Fin 2) ∈ gather_S256x2048_S256x1_S256x2048_1_0_n_n_0_1_12048.startIndexMap from
      List.mem_singleton.mpr rfl)]
    have hs : ∀ q, gather_S256x2048_S256x1_S256x2048_1_0_n_n_0_1_12048.siIdx (ix2 p k) q = ix2 p 0 := by
      intro q
      funext b
      apply Fin.ext
      match b with
      | ⟨0, _⟩ => rfl
      | ⟨1, _⟩ =>
        have hq : q.val = 0 := by
          have : q.val < 1 := q.isLt
          omega
        exact hq
    rw [hs]
    rfl
  · unfold GatherDims.start
    rw [dif_neg (show ¬ (1 : Fin 2) ∈ gather_S256x2048_S256x1_S256x2048_1_0_n_n_0_1_12048.startIndexMap from
      fun h => absurd (List.mem_singleton.mp h) (by decide))]
    unfold GatherDims.offCoord
    rw [dif_pos (show (1 : Fin 2) ∈ gather_S256x2048_S256x1_S256x2048_1_0_n_n_0_1_12048.sKept from by
      refine (GatherDims.mem_sKept _ _).mpr ⟨fun h => absurd (List.mem_singleton.mp h) (by decide), List.not_mem_nil⟩)]
    exact (Nat.zero_add _).trans rfl

variable (m : (ℓ : Loc nD τ sig) → Buf (Elt Ideal) ℓ) (c : Dev nD)

/-- The hidden states and the weights as launched. -/
abbrev hid : S8192x2048.Idx → EReal := m ((c : Thread nD τ).loc main_arg0)
abbrev wgt : S256x2048.Idx → EReal := m ((c : Thread nD τ).loc main_arg1)

/-- What the kernel's weight window holds: column `p` is the row of the expert at place `p`. -/
theorem entry_weights (k : Fin 2048) (p : Fin 256) :
    (V m c main_v5 : S2048x256.Idx → EReal) (ix2 k p) = wgt m c (ix2 (at' p) k) := by
  have h : V m c main_v5 = transpose S2048x256 [1, 0] (Host.gather gather_S256x2048_S256x1_S256x2048_1_0_n_n_0_1_12048
      (wgt m c) (broadcastInDim S256x1 ![0] bcast_S256_S256x1_0 (select (constantI S256 1 0#1)
        (addi (fun i => lit0 (S256.rowMajor i)) (broadcastInDim S256 ![] bcast_S_S256 (constantI S_ 32 256#32)))
        (fun i => lit0 (S256.rowMajor i))))) transposes_S256x2048_S2048x256_1_0 := by
    show StableHlo.after hostOps0 _ _ = _
    after_results
    rfl
  refine (congrFun h _).trans ((transpose_apply [1, 0] _ transposes_S256x2048_S2048x256_1_0 (ix2 k p) (ix2 p k) fun b => by
    match b with
    | ⟨0, _⟩ => rfl
    | ⟨1, _⟩ => rfl).trans ((gather_rows _ _ p k).trans (congrArg (fun r => wgt m c (ix2 r k)) (Fin.ext ?_))))
  refine Eq.trans (congrArg (fun z : BitVec 32 => min z.toInt.toNat 255) ?_) (table p)
  refine (broadcastInDim_apply ![0] bcast_S256_S256x1_0 _ (ix2 p 0) (ix1 p) fun a => by
    match a with
    | ⟨0, _⟩ => rfl).trans ?_
  refine (select_zero _ _).trans (congrArg lit0 (Fin.ext ?_))
  exact Shape.rowMajor_val_one ..

/-- The token in row `b` of block `n`. -/
def tok (n : Fin 32) (b : Fin 256) : Fin 8192 := ⟨n.val * 256 + b.val, by omega⟩

/-- A token's logit for an expert. -/
def logit (h : S8192x2048.Idx → EReal) (w : S256x2048.Idx → EReal) (t : Fin 8192) (e : Fin 256) : EReal :=
  ∑ k : Fin 2048, h (ix2 t k) * w (ix2 e k)

/-- The product of a block of rows with the weights, at an entry. -/
theorem product_apply (X : Vec Ideal S256x2048 .f32) (W : Vec Ideal S2048x256 .f32) (b p : Fin 256) :
    k0_pay7 (F := Ideal) X W (ix2 b p) = ∑ k : Fin 2048, X (ix2 b k) * W (ix2 k p) := by
  unfold k0_pay7
  refine (Ideal.matmul_constant_zero_apply _ _ _ _ _).trans ?_
  refine (Equiv.sum_comp (contrEquiv1 dot_S256x2048_S2048x256_S256x256_1_0_0_1_n_n 2048 rfl rfl).symm _).symm.trans ?_
  refine Finset.sum_congr rfl fun k _ => ?_
  refine congrArg₂ (· * ·) (congrArg X ?_) ((shapeCast_apply W _ _ (ix2 k p) ?_).trans rfl)
  · funext a
    match a with
    | ⟨0, _⟩ => rfl
    | ⟨1, _⟩ => rfl
  · rw [Shape.rowMajor_val_two, Shape.rowMajor_val_two]
    rfl

theorem left_apply (X : Vec Ideal S256x2048 .f32) (W : Vec Ideal S2048x256 .f32) (b : Fin 256) (q : Fin 128) :
    k0_pay8 (F := Ideal) X W (ix2 b q) = k0_pay7 (F := Ideal) X W (ix2 b ⟨q.val, by omega⟩) := by
  unfold k0_pay8
  refine extractStridedSlice_apply _ _ _ _ _ fun a => ?_
  match a with
  | ⟨0, _⟩ => show b.val = 0 + b.val; omega
  | ⟨1, _⟩ => show q.val = 0 + q.val; omega

theorem right_apply (X : Vec Ideal S256x2048 .f32) (W : Vec Ideal S2048x256 .f32) (b : Fin 256) (q : Fin 128) :
    k0_pay9 (F := Ideal) X W (ix2 b q) = k0_pay7 (F := Ideal) X W (ix2 b ⟨128 + q.val, by omega⟩) := by
  unfold k0_pay9
  refine extractStridedSlice_apply _ _ _ _ _ fun a => ?_
  match a with
  | ⟨0, _⟩ => show b.val = 0 + b.val; omega
  | ⟨1, _⟩ => rfl

/-- A block's logits, in both halves, are those of the experts its lanes stand for. -/
theorem holds_logits (X : Vec Ideal S256x2048 .f32) (W : Vec Ideal S2048x256 .f32) (h : S8192x2048.Idx → EReal)
    (w : S256x2048.Idx → EReal) (n : Fin 32) (hX : ∀ b k, X (ix2 b k) = h (ix2 (tok n b) k))
    (hW : ∀ k p, W (ix2 k p) = w (ix2 (at' p) k)) :
    Holds (Block.v7 X W) (Block.v8 X W) fun b e => logit h w (tok n b) e := by
  have key : ∀ b p, k0_pay7 (F := Ideal) X W (ix2 b p) = logit h w (tok n b) (at' p) := fun b p =>
    (product_apply X W b p).trans (Finset.sum_congr rfl fun k _ => by rw [hX, hW])
  intro b q
  refine ⟨(left_apply X W b q).trans (key _ _), (right_apply X W b q).trans ((key _ _).trans ?_)⟩
  refine congrArg (logit h w (tok n b)) (Fin.ext ?_)
  show (128 + q.val) % 8 * 32 + (128 + q.val) / 8 = q.val % 8 * 32 + 16 + q.val / 8
  omega

/-- Block `t` of the hidden states. -/
theorem block_hidden (t : Fin cfg0.N) (ht : t.val < 32) (b : Fin 256) (k : Fin 2048) :
    (iblk m c 0 t : S256x2048.Idx → EReal) (ix2 b k) = hid m c (ix2 (tok ⟨t.val, ht⟩ b) k) := by
  have hi : ∀ t : Fin grid0.N, win0_0.index t = ![t.val, 0] := by decide +kernel
  unfold iblk
  rw [show V m c (Pipeline.arrRef spec0 0) = m ((c : Thread nD τ).loc main_arg0) from V_main_arg0 m c]
  refine congrArg (hid m c) (funext fun a => Fin.ext ?_)
  refine ((cfg0.win 0).rect_emb_val t (ix2 b k) a).trans ?_
  match a with
  | ⟨0, _⟩ =>
    have : win0_0.index t 0 = t.val := congrFun (hi t) 0
    show win0_0.index t 0 * 256 + b.val = t.val * 256 + b.val
    rw [this]
  | ⟨1, _⟩ =>
    have : win0_0.index t 1 = 0 := congrFun (hi t) 1
    show win0_0.index t 1 * 2048 + k.val = k.val
    rw [this]
    omega

/-- The weight window holds the whole gathered array at every point. -/
theorem block_weights (t : Fin cfg0.N) (k : Fin 2048) (p : Fin 256) :
    (iblk m c 1 t : S2048x256.Idx → EReal) (ix2 k p) = wgt m c (ix2 (at' p) k) := by
  have hi : ∀ t : Fin grid0.N, win0_1.index t = ![0, 0] := by decide +kernel
  refine Eq.trans ?_ (entry_weights m c k p)
  unfold iblk
  refine congrArg (V m c main_v5 : S2048x256.Idx → EReal) (funext fun a => Fin.ext ?_)
  refine ((cfg0.win 1).rect_emb_val t (ix2 k p) a).trans ?_
  match a with
  | ⟨0, _⟩ =>
    have : win0_1.index t 0 = 0 := congrFun (hi t) 0
    show win0_1.index t 0 * 2048 + k.val = k.val
    rw [this]
    omega
  | ⟨1, _⟩ =>
    have : win0_1.index t 1 = 0 := congrFun (hi t) 1
    show win0_1.index t 1 * 256 + p.val = p.val
    rw [this]
    omega

/-- So at every grid point the halves hold the logits of the block's tokens. -/
theorem holds_block (t : Fin cfg0.N) (ht : t.val < 32) :
    Holds (Block.v7 (iblk m c 0 t) (iblk m c 1 t)) (Block.v8 (iblk m c 0 t) (iblk m c 1 t))
      fun b e => logit (hid m c) (wgt m c) (tok ⟨t.val, ht⟩ b) e :=
  holds_logits _ _ _ _ _ (fun b k => block_hidden m c t ht b k) fun k p => block_weights m c t k p

end Cert.Weights

end
-- ==== Proof.Step.lean ====
/- What one grid point leaves: the block of indices and weights, and the sums carried to the next point. -/
module

public import proofs.«01_k».proof.Proof.Weights
public import Idealize.ShloMosaic.Lib.Pipeline.ValueKit.Acc

@[expose] public section

noncomputable section

namespace Cert.Step

open Idealize.ShloMosaic Idealize.ShloMosaic.ValueIdx Idealize.ShloMosaic.TcCoe Idealize.SL.Sem
open Cert.KernelIdeal Cert.KernelIdeal.Gen Cert.Lanes Cert.Block Cert.Sums Cert.Weights

/-- 256 numbers, one for each place. -/
abbrev Wide := Vec Ideal S1x256 .f32

/-- The first and the second 128 of them. -/
def lo (p : Wide) : Row := fun i => p (ix2 0 ⟨(i 1).val, by have : (i 1).val < 128 := (i 1).isLt; omega⟩)
def hi (p : Wide) : Row := fun i => p (ix2 0 ⟨128 + (i 1).val, by have : (i 1).val < 128 := (i 1).isLt; omega⟩)

/-- Where the first and the second 128 stand. -/
abbrev rlo : Rect S1x256 := Rect.unit ![0, 0] S1x128.size inb_S1x256_S1x128_0_0
abbrev rhi : Rect S1x256 := Rect.unit ![0, 128] S1x128.size inb_S1x256_S1x128_0_128

theorem ld_lo (p : Wide) : View.ld p rlo = lo p :=
  funext fun i => congrArg p (funext fun a => Fin.ext (by
    match a with
    | ⟨0, _⟩ => have : (i 0).val < 1 := (i 0).isLt; show 0 + 1 * (i 0).val = 0; omega
    | ⟨1, _⟩ => show 0 + 1 * (i 1).val = (i 1).val; omega))

theorem ld_hi (p : Wide) : View.ld p rhi = hi p :=
  funext fun i => congrArg p (funext fun a => Fin.ext (by
    match a with
    | ⟨0, _⟩ => have : (i 0).val < 1 := (i 0).isLt; show 0 + 1 * (i 0).val = 0; omega
    | ⟨1, _⟩ => show 128 + 1 * (i 1).val = 128 + (i 1).val; omega))

abbrev Pieces := List (View.Piece (Elt Ideal) S1x256 .f32)

theorem disjoint_halves : Disjoint rhi.set rlo.set := by decide +kernel

theorem load_last_lo (A : Row) (L : Pieces) : View.ld (View.canon (⟨rlo, A⟩ :: L)) rlo = A :=
  funext fun i => View.canon_cons_emb rlo A L i

theorem load_last_hi (A : Row) (L : Pieces) : View.ld (View.canon (⟨rhi, A⟩ :: L)) rhi = A :=
  funext fun i => View.canon_cons_emb rhi A L i

theorem load_hi_skip (A : Row) (L : Pieces) : View.ld (View.canon (⟨rlo, A⟩ :: L)) rhi = View.ld (View.canon L) rhi :=
  funext fun i => View.canon_cons_of_not_mem _ L (Finset.disjoint_left.mp disjoint_halves ((LoadRect.mem_set _).mpr fun a => ⟨i a, (i a).isLt, rfl⟩))

theorem load_lo_skip (A : Row) (L : Pieces) : View.ld (View.canon (⟨rhi, A⟩ :: L)) rlo = View.ld (View.canon L) rlo :=
  funext fun i => View.canon_cons_of_not_mem _ L (Finset.disjoint_right.mp disjoint_halves ((LoadRect.mem_set _).mpr fun a => ⟨i a, (i a).isLt, rfl⟩))

/-- What writing the first 128 and then the second leaves, and one write of all. -/
abbrev both (A1 A0 : Row) (L : Pieces) : Wide := View.canon (⟨rhi, A1⟩ :: ⟨rlo, A0⟩ :: L)
abbrev full (Z : Wide) : Pieces := [⟨Rect.unit (s := S1x256) ![0, 0] S1x256.size inb_S1x256_S1x256_0_0, Z⟩]

/-- Writing the first 128, then the second, leaves each. -/
theorem lo_canon (A0 A1 : Row) (L : Pieces) : lo (both A1 A0 L) = A0 :=
  (ld_lo _).symm.trans ((load_lo_skip _ _).trans (load_last_lo _ _))

theorem hi_canon (A0 A1 : Row) (L : Pieces) : hi (both A1 A0 L) = A1 :=
  (ld_hi _).symm.trans (load_last_hi _ _)

/-- Reading a whole block back. -/
theorem ld_hidden (X : Vec Ideal S256x2048 .f32) :
    View.ld (Val := Elt Ideal) X (Rect.unit (s := S256x2048) ![0, 0] S256x2048.size inb_S256x2048_S256x2048_0_0) = X :=
  View.ld_unit_lit _ _ (by decide)
theorem ld_weights (X : Vec Ideal S2048x256 .f32) :
    View.ld (Val := Elt Ideal) X (Rect.unit (s := S2048x256) ![0, 0] S2048x256.size inb_S2048x256_S2048x256_0_0) = X :=
  View.ld_unit_lit _ _ (by decide)

variable (m : (ℓ : Loc nD τ sig) → Buf (Elt Ideal) ℓ) (c : Dev nD)

/-- The two counts of a point, over what was carried. -/
abbrev cnt0 (X : Vec Ideal S256x2048 .f32) (W : Vec Ideal S2048x256 .f32) (p : Row) : Row :=
  k0_pay2 (k0_pay80 (v65 X W) (v214 X W)) p
abbrev cnt1 (X : Vec Ideal S256x2048 .f32) (W : Vec Ideal S2048x256 .f32) (p : Row) : Row :=
  k0_pay3 (k0_pay81 (v68 X W) (v216 X W)) p

/-- The two sums of probabilities of a point, over what was carried. -/
abbrev psum0 (X : Vec Ideal S256x2048 .f32) (W : Vec Ideal S2048x256 .f32) (p : Row) : Row := k0_pay82 (v7 X W) (v8 X W) p
abbrev psum1 (X : Vec Ideal S256x2048 .f32) (W : Vec Ideal S2048x256 .f32) (p : Row) : Row :=
  k0_pay1 (k0_pay78 (v8 X W)) (k0_pay79 (v7 X W) (v8 X W)) p

theorem index_A (t : Fin cfg0.N) (h0 : t.val % 32 = 0) (h1 : ¬t.val % 32 = 31) :
    (outsAt0 m c t.val t.isLt).1 = v226 (iblk m c 0 t) (iblk m c 1 t) := by
  rw [outsAt0_A m c t h0 h1]
  dsimp only
  unfold out0_A_2
  rw [View.read_writes_junk_eq_canon]
  unfold kernelRun0_A
  dsimp only
  sl_unfold_words
  simp only [View.readAt_eq_ld, (hs0_0 t).read_unread, (hs0_1 t).read_unread]
  rw [View.canon_cons_unit_lit _ _ _ (by decide)]
  rw [ld_hidden (iblk m c 0 t), ld_weights (iblk m c 1 t)]

theorem weight_A (t : Fin cfg0.N) (h0 : t.val % 32 = 0) (h1 : ¬t.val % 32 = 31) :
    (outsAt0 m c t.val t.isLt).2.1 = v233 (iblk m c 0 t) (iblk m c 1 t) := by
  rw [outsAt0_A m c t h0 h1]
  dsimp only
  unfold out0_A_3
  rw [View.read_writes_junk_eq_canon]
  unfold kernelRun0_A
  dsimp only
  sl_unfold_words
  simp only [View.readAt_eq_ld, (hs0_0 t).read_unread, (hs0_1 t).read_unread]
  rw [View.canon_cons_unit_lit _ _ _ (by decide)]
  rw [ld_hidden (iblk m c 0 t), ld_weights (iblk m c 1 t)]

theorem cnt_A (t : Fin cfg0.N) (h0 : t.val % 32 = 0) (h1 : ¬t.val % 32 = 31) :
    (outsAt0 m c t.val t.isLt).2.2.2.1 = both
      (cnt1 (iblk m c 0 t) (iblk m c 1 t) (hi (k0_pay5 (F := Ideal))))
      (cnt0 (iblk m c 0 t) (iblk m c 1 t) (lo (k0_pay5 (F := Ideal)))) (full (k0_pay5 (F := Ideal))) := by
  rw [outsAt0_A m c t h0 h1]
  dsimp only
  unfold sout0_A_0
  rw [View.read_writes_junk_eq_canon]
  unfold kernelRun0_A
  dsimp only
  sl_unfold_words
  simp only [View.readAt_eq_ld, (hs0_0 t).read_unread, (hs0_1 t).read_unread, View.readCov_eq_canon']
  rw [ld_hidden (iblk m c 0 t), ld_weights (iblk m c 1 t)]
  exact congrArg₂ (fun A1 A0 : Row => both A1 A0 (full (k0_pay5 (F := Ideal))))
    (congrArg (cnt1 (iblk m c 0 t) (iblk m c 1 t)) ((load_hi_skip _ _).trans
      ((congrArg (View.ld · rhi) (View.canon_cons_unit_lit _ _ _ (by decide))).trans (ld_hi _))))
    (congrArg (cnt0 (iblk m c 0 t) (iblk m c 1 t)) ((congrArg (View.ld · rlo) (View.canon_cons_unit_lit _ _ _ (by decide))).trans (ld_lo _)))

theorem psum_A (t : Fin cfg0.N) (h0 : t.val % 32 = 0) (h1 : ¬t.val % 32 = 31) :
    (outsAt0 m c t.val t.isLt).2.2.2.2 = both
      (psum1 (iblk m c 0 t) (iblk m c 1 t) (hi (k0_pay6 (F := Ideal))))
      (psum0 (iblk m c 0 t) (iblk m c 1 t) (lo (k0_pay6 (F := Ideal)))) (full (k0_pay6 (F := Ideal))) := by
  rw [outsAt0_A m c t h0 h1]
  dsimp only
  unfold sout0_A_1
  rw [View.read_writes_junk_eq_canon]
  unfold kernelRun0_A
  dsimp only
  sl_unfold_words
  simp only [View.readAt_eq_ld, (hs0_0 t).read_unread, (hs0_1 t).read_unread, View.readCov_eq_canon']
  rw [ld_hidden (iblk m c 0 t), ld_weights (iblk m c 1 t)]
  exact congrArg₂ (fun A1 A0 : Row => both A1 A0 (full (k0_pay6 (F := Ideal))))
    (congrArg (psum1 (iblk m c 0 t) (iblk m c 1 t)) ((load_hi_skip _ _).trans
      ((congrArg (View.ld · rhi) (View.canon_cons_unit_lit _ _ _ (by decide))).trans (ld_hi _))))
    (congrArg (psum0 (iblk m c 0 t) (iblk m c 1 t)) ((congrArg (View.ld · rlo) (View.canon_cons_unit_lit _ _ _ (by decide))).trans (ld_lo _)))

theorem index_B (t : Fin cfg0.N) (h0 : ¬t.val % 32 = 0) (h1 : ¬t.val % 32 = 31) :
    (outsAt0 m c t.val t.isLt).1 = v226 (iblk m c 0 t) (iblk m c 1 t) := by
  rw [outsAt0_B m c t h0 h1]
  dsimp only
  unfold out0_B_2
  rw [View.read_writes_junk_eq_canon]
  unfold kernelRun0_B
  dsimp only
  sl_unfold_words
  simp only [View.readAt_eq_ld, (hs0_0 t).read_unread, (hs0_1 t).read_unread]
  rw [View.canon_cons_unit_lit _ _ _ (by decide)]
  rw [ld_hidden (iblk m c 0 t), ld_weights (iblk m c 1 t)]

theorem weight_B (t : Fin cfg0.N) (h0 : ¬t.val % 32 = 0) (h1 : ¬t.val % 32 = 31) :
    (outsAt0 m c t.val t.isLt).2.1 = v233 (iblk m c 0 t) (iblk m c 1 t) := by
  rw [outsAt0_B m c t h0 h1]
  dsimp only
  unfold out0_B_3
  rw [View.read_writes_junk_eq_canon]
  unfold kernelRun0_B
  dsimp only
  sl_unfold_words
  simp only [View.readAt_eq_ld, (hs0_0 t).read_unread, (hs0_1 t).read_unread]
  rw [View.canon_cons_unit_lit _ _ _ (by decide)]
  rw [ld_hidden (iblk m c 0 t), ld_weights (iblk m c 1 t)]

theorem cnt_B (t : Fin cfg0.N) (h0 : ¬t.val % 32 = 0) (h1 : ¬t.val % 32 = 31) :
    (outsAt0 m c t.val t.isLt).2.2.2.1 = both
      (cnt1 (iblk m c 0 t) (iblk m c 1 t) (hi (outsAt0 m c (t.val - 1) (Nat.lt_of_le_of_lt (Nat.sub_le _ _) t.isLt)).2.2.2.1))
      (cnt0 (iblk m c 0 t) (iblk m c 1 t) (lo (outsAt0 m c (t.val - 1) (Nat.lt_of_le_of_lt (Nat.sub_le _ _) t.isLt)).2.2.2.1)) [] := by
  rw [outsAt0_B m c t h0 h1]
  dsimp only
  unfold sout0_B_0
  rw [View.read_writes_junk_eq_canon]
  unfold kernelRun0_B
  dsimp only
  sl_unfold_words
  simp only [View.readAt_eq_ld, (hs0_0 t).read_unread, (hs0_1 t).read_unread, (Memref.isWhole_whole _).read_unread]
  rw [ld_hidden (iblk m c 0 t), ld_weights (iblk m c 1 t)]
  exact congrArg₂ (fun A1 A0 : Row => both A1 A0 [])
    (congrArg (cnt1 (iblk m c 0 t) (iblk m c 1 t)) (ld_hi _)) (congrArg (cnt0 (iblk m c 0 t) (iblk m c 1 t)) (ld_lo _))

theorem psum_B (t : Fin cfg0.N) (h0 : ¬t.val % 32 = 0) (h1 : ¬t.val % 32 = 31) :
    (outsAt0 m c t.val t.isLt).2.2.2.2 = both
      (psum1 (iblk m c 0 t) (iblk m c 1 t) (hi (outsAt0 m c (t.val - 1) (Nat.lt_of_le_of_lt (Nat.sub_le _ _) t.isLt)).2.2.2.2))
      (psum0 (iblk m c 0 t) (iblk m c 1 t) (lo (outsAt0 m c (t.val - 1) (Nat.lt_of_le_of_lt (Nat.sub_le _ _) t.isLt)).2.2.2.2)) [] := by
  rw [outsAt0_B m c t h0 h1]
  dsimp only
  unfold sout0_B_1
  rw [View.read_writes_junk_eq_canon]
  unfold kernelRun0_B
  dsimp only
  sl_unfold_words
  simp only [View.readAt_eq_ld, (hs0_0 t).read_unread, (hs0_1 t).read_unread, (Memref.isWhole_whole _).read_unread]
  rw [ld_hidden (iblk m c 0 t), ld_weights (iblk m c 1 t)]
  exact congrArg₂ (fun A1 A0 : Row => both A1 A0 [])
    (congrArg (psum1 (iblk m c 0 t) (iblk m c 1 t)) (ld_hi _)) (congrArg (psum0 (iblk m c 0 t) (iblk m c 1 t)) (ld_lo _))

theorem index_C (t : Fin cfg0.N) (h0 : ¬t.val % 32 = 0) (h1 : t.val % 32 = 31) :
    (outsAt0 m c t.val t.isLt).1 = v226 (iblk m c 0 t) (iblk m c 1 t) := by
  rw [outsAt0_C m c t h0 h1]
  dsimp only
  unfold out0_C_2
  rw [View.read_writes_junk_eq_canon]
  unfold kernelRun0_C
  dsimp only
  sl_unfold_words
  simp only [View.readAt_eq_ld, (hs0_0 t).read_unread, (hs0_1 t).read_unread]
  rw [View.canon_cons_unit_lit _ _ _ (by decide)]
  rw [ld_hidden (iblk m c 0 t), ld_weights (iblk m c 1 t)]

theorem weight_C (t : Fin cfg0.N) (h0 : ¬t.val % 32 = 0) (h1 : t.val % 32 = 31) :
    (outsAt0 m c t.val t.isLt).2.1 = v233 (iblk m c 0 t) (iblk m c 1 t) := by
  rw [outsAt0_C m c t h0 h1]
  dsimp only
  unfold out0_C_3
  rw [View.read_writes_junk_eq_canon]
  unfold kernelRun0_C
  dsimp only
  sl_unfold_words
  simp only [View.readAt_eq_ld, (hs0_0 t).read_unread, (hs0_1 t).read_unread]
  rw [View.canon_cons_unit_lit _ _ _ (by decide)]
  rw [ld_hidden (iblk m c 0 t), ld_weights (iblk m c 1 t)]

theorem cnt_C (t : Fin cfg0.N) (h0 : ¬t.val % 32 = 0) (h1 : t.val % 32 = 31) :
    (outsAt0 m c t.val t.isLt).2.2.2.1 = both
      (cnt1 (iblk m c 0 t) (iblk m c 1 t) (hi (outsAt0 m c (t.val - 1) (Nat.lt_of_le_of_lt (Nat.sub_le _ _) t.isLt)).2.2.2.1))
      (cnt0 (iblk m c 0 t) (iblk m c 1 t) (lo (outsAt0 m c (t.val - 1) (Nat.lt_of_le_of_lt (Nat.sub_le _ _) t.isLt)).2.2.2.1)) [] := by
  rw [outsAt0_C m c t h0 h1]
  dsimp only
  unfold sout0_C_0
  rw [View.read_writes_junk_eq_canon]
  unfold kernelRun0_C
  dsimp only
  sl_unfold_words
  simp only [View.readAt_eq_ld, (hs0_0 t).read_unread, (hs0_1 t).read_unread, (Memref.isWhole_whole _).read_unread]
  rw [ld_hidden (iblk m c 0 t), ld_weights (iblk m c 1 t)]
  exact congrArg₂ (fun A1 A0 : Row => both A1 A0 [])
    (congrArg (cnt1 (iblk m c 0 t) (iblk m c 1 t)) (ld_hi _)) (congrArg (cnt0 (iblk m c 0 t) (iblk m c 1 t)) (ld_lo _))

theorem psum_C (t : Fin cfg0.N) (h0 : ¬t.val % 32 = 0) (h1 : t.val % 32 = 31) :
    (outsAt0 m c t.val t.isLt).2.2.2.2 = both
      (psum1 (iblk m c 0 t) (iblk m c 1 t) (hi (outsAt0 m c (t.val - 1) (Nat.lt_of_le_of_lt (Nat.sub_le _ _) t.isLt)).2.2.2.2))
      (psum0 (iblk m c 0 t) (iblk m c 1 t) (lo (outsAt0 m c (t.val - 1) (Nat.lt_of_le_of_lt (Nat.sub_le _ _) t.isLt)).2.2.2.2)) [] := by
  rw [outsAt0_C m c t h0 h1]
  dsimp only
  unfold sout0_C_1
  rw [View.read_writes_junk_eq_canon]
  unfold kernelRun0_C
  dsimp only
  sl_unfold_words
  simp only [View.readAt_eq_ld, (hs0_0 t).read_unread, (hs0_1 t).read_unread, (Memref.isWhole_whole _).read_unread]
  rw [ld_hidden (iblk m c 0 t), ld_weights (iblk m c 1 t)]
  exact congrArg₂ (fun A1 A0 : Row => both A1 A0 [])
    (congrArg (psum1 (iblk m c 0 t) (iblk m c 1 t)) (ld_hi _)) (congrArg (psum0 (iblk m c 0 t) (iblk m c 1 t)) (ld_lo _))

theorem aux_C (t : Fin cfg0.N) (h0 : ¬t.val % 32 = 0) (h1 : t.val % 32 = 31) :
    (outsAt0 m c t.val t.isLt).2.2.1 = k0_pay4 (outsAt0 m c t.val t.isLt).2.2.2.1 (outsAt0 m c t.val t.isLt).2.2.2.2 := by
  rw [cnt_C m c t h0 h1, psum_C m c t h0 h1]
  rw [outsAt0_C m c t h0 h1]
  dsimp only
  unfold out0_C_4
  rw [View.read_writes_junk_eq_canon]
  unfold kernelRun0_C
  dsimp only
  sl_unfold_words
  rw [View.canon_cons_unit_lit _ _ _ (by decide)]
  simp only [View.readAt_eq_ld, (hs0_0 t).read_unread, (hs0_1 t).read_unread, (Memref.isWhole_whole _).read_unread, View.readCov_eq_canon']
  rw [ld_hidden (iblk m c 0 t), ld_weights (iblk m c 1 t)]
  have key : ∀ (A1 A0 B1 B0 : Row), A1 = B1 → A0 = B0 → (fun j => both A1 A0 []
      ((Rect.unit (s := S1x256) ![0, 0] S1x256.size inb_S1x256_S1x256_0_0).toLoadRect.idx j)) = both B1 B0 [] := by
    rintro A1 A0 _ _ rfl rfl
    exact View.ld_unit_lit _ _ (by decide)
  exact congrArg₂ k0_pay4
    (key _ _ _ _ (congrArg (cnt1 (iblk m c 0 t) (iblk m c 1 t)) (ld_hi _)) (congrArg (cnt0 (iblk m c 0 t) (iblk m c 1 t)) (ld_lo _)))
    (key _ _ _ _ (congrArg (psum1 (iblk m c 0 t) (iblk m c 1 t)) (ld_hi _)) (congrArg (psum0 (iblk m c 0 t) (iblk m c 1 t)) (ld_lo _)))

end Cert.Step

end
-- ==== Proof.Run.lean ====
/- What the kernel has after every grid point: the block's indices and weights, and the two sums over the tokens so far. -/
module

public import proofs.«01_k».proof.Proof.Step

@[expose] public section

noncomputable section

namespace Cert.Run

open Idealize.ShloMosaic Idealize.ShloMosaic.ValueIdx Idealize.ShloMosaic.TcCoe Idealize.SL.Sem
open Cert.KernelIdeal Cert.KernelIdeal.Gen Cert.Lanes Cert.Pick Cert.Rounds Cert.Block Cert.Sums Cert.Weights Cert.Step

/-! ## Sums over the tokens -/

/-- Block `n`'s part of a sum over the tokens; zero after the last block. -/
def part (f : Fin 8192 → Fin 256 → ℝ) (n : ℕ) (e : Fin 256) : EReal :=
  if h : n < 32 then ∑ b : Fin 256, (f (tok ⟨n, h⟩ b) e : EReal) else 0

/-- The sum over the tokens of the first `n` blocks. -/
def upTo (f : Fin 8192 → Fin 256 → ℝ) : ℕ → Fin 256 → EReal
  | 0, _ => 0
  | n + 1, e => upTo f n e + part f n e

theorem part_of_lt (f : Fin 8192 → Fin 256 → ℝ) (n : Fin 32) (e : Fin 256) :
    part f n.val e = ∑ b : Fin 256, (f (tok n b) e : EReal) := dif_pos n.isLt

theorem upTo_eq (f : Fin 8192 → Fin 256 → ℝ) (e : Fin 256) : ∀ n, upTo f n e = ∑ i ∈ Finset.range n, part f i e
  | 0 => by simp [upTo]
  | n + 1 => by rw [Finset.sum_range_succ, ← upTo_eq f e n]; rfl

/-- Every token is one block's one row. -/
theorem sum_tokens {M : Type} [AddCommMonoid M] (f : Fin 8192 → M) : ∑ n : Fin 32, ∑ b : Fin 256, f (tok n b) = ∑ t, f t := by
  rw [← Fintype.sum_prod_type' (fun n b => f (tok n b))]
  refine Function.Bijective.sum_comp (e := fun x : Fin 32 × Fin 256 => tok x.1 x.2)
    ((Fintype.bijective_iff_injective_and_card _).mpr ⟨?_, by simp⟩) f
  rintro ⟨n, b⟩ ⟨n', b'⟩ h
  have hv : n.val * 256 + b.val = n'.val * 256 + b'.val := congrArg Fin.val h
  have hb := b.isLt
  have hb' := b'.isLt
  exact Prod.ext (Fin.ext (by show n.val = n'.val; omega)) (Fin.ext (by show b.val = b'.val; omega))

/-- After the last block the sum runs over all tokens. -/
theorem upTo_all (f : Fin 8192 → Fin 256 → ℝ) (e : Fin 256) : upTo f 32 e = ((∑ t, f t e : ℝ) : EReal) := by
  rw [upTo_eq, Finset.sum_range, Finset.sum_congr rfl fun i _ => part_of_lt f i e, coe_sum]
  exact sum_tokens fun t => (f t e : EReal)

/-! ## The points -/

variable (m : (ℓ : Loc nD τ sig) → Buf (Elt Ideal) ℓ) (c : Dev nD)
variable {L : Fin 8192 → Fin 256 → ℝ} (hL : ∀ t, Function.Injective (L t))
  (hlog : ∀ t e, logit (hid m c) (wgt m c) t e = (L t e : EReal))

theorem lt_points (t : Fin cfg0.N) : t.val < 32 := lt_of_lt_of_eq t.isLt N_0

/-- The block of a point. -/
abbrev blk (t : Fin cfg0.N) : Fin 32 := ⟨t.val, lt_points t⟩

include hlog in
theorem block_logits (t : Fin cfg0.N) : Holds (v7 (iblk m c 0 t) (iblk m c 1 t)) (v8 (iblk m c 0 t) (iblk m c 1 t))
    fun b e => (L (tok (blk t) b) e : EReal) :=
  Holds.congr (holds_block m c t (lt_points t)) fun b e => hlog (tok (blk t) b) e

include hL hlog

theorem index_at (t : Fin cfg0.N) (b : Fin 256) (k : Fin 8) :
    (outsAt0 m c t.val t.isLt).1 (ix2 b k) = BitVec.ofNat 32 (nth (L (tok (blk t) b)) k.val).val := by
  have hi : (outsAt0 m c t.val t.isLt).1 = v226 (iblk m c 0 t) (iblk m c 1 t) := by
    by_cases h0 : t.val % 32 = 0
    · exact index_A m c t h0 (by omega)
    · by_cases h1 : t.val % 32 = 31
      · exact index_C m c t h0 h1
      · exact index_B m c t h0 h1
  exact (congrFun hi (ix2 b k)).trans
    (index_apply (L := fun b => L (tok (blk t) b)) (fun b => hL _) (block_logits m c hlog t) b k)

/-- The weight the kernel gives token `t`'s `k`-th expert. -/
def weightOf (L : Fin 256 → ℝ) (k : Fin 8) : EReal :=
  Ideal.div (L (nth L k.val) : EReal) ((∑ j : Fin 8, (L (nth L j.val) : EReal)) + tiny)

theorem weight_at (t : Fin cfg0.N) (b : Fin 256) (k : Fin 8) :
    (outsAt0 m c t.val t.isLt).2.1 (ix2 b k) = weightOf (L (tok (blk t) b)) k := by
  have hi : (outsAt0 m c t.val t.isLt).2.1 = v233 (iblk m c 0 t) (iblk m c 1 t) := by
    by_cases h0 : t.val % 32 = 0
    · exact weight_A m c t h0 (by omega)
    · by_cases h1 : t.val % 32 = 31
      · exact weight_C m c t h0 h1
      · exact weight_B m c t h0 h1
  exact (congrFun hi (ix2 b k)).trans
    (weight_apply (L := fun b => L (tok (blk t) b)) (fun b => hL _) (block_logits m c hlog t) b k)

omit hL hlog in
theorem zero_cnt : RowHolds (lo (k0_pay5 (F := Ideal))) (hi (k0_pay5 (F := Ideal))) fun _ => 0 := by
  have h : Ideal.ofBits .f32 0x00000000#32 = 0 := by simp [Ideal.ofBits, Ideal.ieee]
  exact fun q => ⟨h, h⟩

omit hL hlog in
theorem zero_psum : RowHolds (lo (k0_pay6 (F := Ideal))) (hi (k0_pay6 (F := Ideal))) fun _ => 0 := by
  have h : Ideal.ofBits .f32 0x00000000#32 = 0 := by simp [Ideal.ofBits, Ideal.ieee]
  exact fun q => ⟨h, h⟩

theorem cnt_step (t : Fin cfg0.N) {p0 p1 : Row} {n : ℕ} (hn : t.val = n) (hp : RowHolds p0 p1 (upTo (fun s => mark (L s)) n)) (P : Pieces) :
    RowHolds (lo (both (cnt1 (iblk m c 0 t) (iblk m c 1 t) p1) (cnt0 (iblk m c 0 t) (iblk m c 1 t) p0) P))
      (hi (both (cnt1 (iblk m c 0 t) (iblk m c 1 t) p1) (cnt0 (iblk m c 0 t) (iblk m c 1 t) p0) P))
      (upTo (fun s => mark (L s)) (n + 1)) := by
  subst hn
  rw [lo_canon, hi_canon]
  have h := count_holds (L := fun b => L (tok (blk t) b)) (chosen_marks (fun b => hL _)
    (holds_end (fun b => hL _) (block_logits m c hlog t)) (holds_cand (fun b => hL _) (block_logits m c hlog t))) hp
  intro q
  have e : ∀ x, upTo (fun s => mark (L s)) (t.val + 1) x = upTo (fun s => mark (L s)) t.val x + ∑ b : Fin 256, (mark (L (tok (blk t) b)) x : EReal) :=
    fun x => congrArg _ (part_of_lt _ (blk t) x)
  rw [e, e]
  exact h q

omit hL in
theorem psum_step (t : Fin cfg0.N) {p0 p1 : Row} {n : ℕ} (hn : t.val = n) (hp : RowHolds p0 p1 (upTo (fun s => prob (L s)) n)) (P : Pieces) :
    RowHolds (lo (both (psum1 (iblk m c 0 t) (iblk m c 1 t) p1) (psum0 (iblk m c 0 t) (iblk m c 1 t) p0) P))
      (hi (both (psum1 (iblk m c 0 t) (iblk m c 1 t) p1) (psum0 (iblk m c 0 t) (iblk m c 1 t) p0) P))
      (upTo (fun s => prob (L s)) (n + 1)) := by
  subst hn
  rw [lo_canon, hi_canon]
  have h := psum_holds (L := fun b => L (tok (blk t) b)) (block_logits m c hlog t) hp
  intro q
  have e : ∀ x, upTo (fun s => prob (L s)) (t.val + 1) x = upTo (fun s => prob (L s)) t.val x + ∑ b : Fin 256, (prob (L (tok (blk t) b)) x : EReal) :=
    fun x => congrArg _ (part_of_lt _ (blk t) x)
  rw [e, e]
  exact h q

/-- The carried sums after point `n`: over the tokens of blocks 0 to `n`. -/
theorem sums_at : ∀ (n : ℕ) (hn : n < cfg0.N),
    RowHolds (lo (outsAt0 m c n hn).2.2.2.1) (hi (outsAt0 m c n hn).2.2.2.1) (upTo (fun s => mark (L s)) (n + 1))
    ∧ RowHolds (lo (outsAt0 m c n hn).2.2.2.2) (hi (outsAt0 m c n hn).2.2.2.2) (upTo (fun s => prob (L s)) (n + 1))
  | 0, hn => by
    have h0 : (0 : ℕ) % 32 = 0 := rfl
    have h1 : ¬(0 : ℕ) % 32 = 31 := by decide
    rw [cnt_A m c ⟨0, hn⟩ h0 h1, psum_A m c ⟨0, hn⟩ h0 h1]
    exact ⟨cnt_step m c hL hlog ⟨0, hn⟩ rfl zero_cnt _, psum_step m c hlog ⟨0, hn⟩ rfl zero_psum _⟩
  | n + 1, hn => by
    have ih := sums_at n (Nat.lt_of_succ_lt hn)
    have h32 := lt_points ⟨n + 1, hn⟩
    have h0 : ¬(n + 1) % 32 = 0 := by simp only at h32; omega
    by_cases h1 : (n + 1) % 32 = 31
    · rw [cnt_C m c ⟨n + 1, hn⟩ h0 h1, psum_C m c ⟨n + 1, hn⟩ h0 h1]
      exact ⟨cnt_step m c hL hlog ⟨n + 1, hn⟩ rfl ih.1 _, psum_step m c hlog ⟨n + 1, hn⟩ rfl ih.2 _⟩
    · rw [cnt_B m c ⟨n + 1, hn⟩ h0 h1, psum_B m c ⟨n + 1, hn⟩ h0 h1]
      exact ⟨cnt_step m c hL hlog ⟨n + 1, hn⟩ rfl ih.1 _, psum_step m c hlog ⟨n + 1, hn⟩ rfl ih.2 _⟩

/-! ## The auxiliary loss -/

/-- The loss from the counts and the summed probabilities. -/
def lossOf (C P : Fin 256 → EReal) : EReal :=
  (∑ e, Ideal.div (C e) (Ideal.ofBits .f32 0x46000000#32 * Ideal.ofBits .f32 0x41000000#32) * Ideal.div (P e) (Ideal.ofBits .f32 0x46000000#32))
    * Ideal.ofBits .f32 0x3A83126F#32

omit hL hlog in
/-- A sum over every index of a one by one by 256 array. -/
theorem sum_row (v : S1x1x256.Idx → EReal) : ∑ i, v i = ∑ q : Fin 256, v (ix3 0 0 q) := by
  refine (Function.Bijective.sum_comp (e := fun q : Fin 256 => (ix3 0 0 q : S1x1x256.Idx)) ⟨?_, ?_⟩ v).symm
  · intro q q' h
    exact congrFun h 2
  · intro i
    refine ⟨i 2, funext fun a => ?_⟩
    match a with
    | ⟨0, _⟩ => exact Fin.ext (by have : (i 0).val < 1 := (i 0).isLt; show 0 = (i 0).val; omega)
    | ⟨1, _⟩ => exact Fin.ext (by have : (i 1).val < 1 := (i 1).isLt; show 0 = (i 1).val; omega)
    | ⟨2, _⟩ => rfl

omit hL hlog in
theorem loss_apply {C P : Fin 256 → EReal} {cnt psum : Wide} (hC : RowHolds (lo cnt) (hi cnt) C) (hP : RowHolds (lo psum) (hi psum) P) :
    k0_pay4 cnt psum (ix2 0 0) = lossOf C P := by
  let term : FVec Ideal S1x256 .f32 := mulf (divf cnt (broadcast S1x256 (Ideal.ofBits .f32 0x46000000#32 * Ideal.ofBits .f32 0x41000000#32)))
    (divf psum (broadcast S1x256 (Ideal.ofBits .f32 0x46000000#32)))
  have hs : (∑ q : Fin 256, term (ix2 0 q)) = ∑ e, Ideal.div (C e) (Ideal.ofBits .f32 0x46000000#32 * Ideal.ofBits .f32 0x41000000#32)
      * Ideal.div (P e) (Ideal.ofBits .f32 0x46000000#32) := by
    refine Eq.trans ?_ (sum_lanes fun e => Ideal.div (C e) (Ideal.ofBits .f32 0x46000000#32 * Ideal.ofBits .f32 0x41000000#32)
      * Ideal.div (P e) (Ideal.ofBits .f32 0x46000000#32))
    refine (Fin.sum_univ_add (a := 128) (b := 128) fun q : Fin (128 + 128) => term (ix2 0 q)).trans ?_
    rw [← Finset.sum_add_distrib]
    refine Finset.sum_congr rfl fun q _ => ?_
    refine congrArg₂ (· + ·) ?_ ?_
    · rw [← (hC q).1, ← (hP q).1]
      rfl
    · rw [← (hC q).2, ← (hP q).2]
      rfl
  show multiReduction .add [1, 2] S1 (shapeCast S1x1x256 term shapeCasts_S1x256_S1x1x256) 0x00000000#32 reduces_S1x1x256_S1 (.inl rfl) rfl _
    * Ideal.ofBits .f32 0x3A83126F#32 = _
  unfold lossOf
  rw [← hs]
  refine congrArg (· * Ideal.ofBits .f32 0x3A83126F#32) ?_
  refine (Ideal.multiReduction_add_total _ _ reduces_S1x1x256_S1 (by decide) (.inl rfl) rfl _).trans ((sum_row _).trans ?_)
  refine Finset.sum_congr rfl fun q _ => ?_
  exact shapeCast_apply term _ _ (ix2 0 q) (by rw [Shape.rowMajor_val_two, Shape.rowMajor_val_three]; rfl)

/-- The last point leaves the loss over all tokens. -/
theorem loss_at (t : Fin cfg0.N) (ht : t.val = 31) : (outsAt0 m c t.val t.isLt).2.2.1 (ix2 0 0)
    = lossOf (fun e => ((∑ s, mark (L s) e : ℝ) : EReal)) fun e => ((∑ s, prob (L s) e : ℝ) : EReal) := by
  have h := sums_at m c hL hlog t.val t.isLt
  have hall : ∀ (f : Fin 8192 → Fin 256 → ℝ) e, upTo f (t.val + 1) e = ((∑ s, f s e : ℝ) : EReal) := fun f e => by
    rw [ht]
    exact upTo_all f e
  rw [aux_C m c t (by omega) (by omega)]
  refine loss_apply (fun q => ?_) fun q => ?_
  · rw [← hall fun s => mark (L s), ← hall fun s => mark (L s)]
    exact h.1 q
  · rw [← hall fun s => prob (L s), ← hall fun s => prob (L s)]
    exact h.2 q

end Cert.Run

end
-- ==== Proof.RefPick.lean ====
/- The reference's experts and weights, read off its operations. The two selections leave the logits of the eight largest candidates
   with their slots; the group of a slot comes from a division by four, the place in the group from a look-up in the first
   selection's places. -/
module

public import proofs.«01_k».proof.Proof.Sorted
public import proofs.«01_k».proof.Proof.Slots
public import proofs.«01_k».proof.Proof.Run

@[expose] public section

noncomputable section

namespace Cert.RefPick

open Idealize.ShloMosaic Idealize.ShloMosaic.ValueIdx Cert.ReferenceIdeal Cert.ReferenceIdeal.Gen Cert.ReferenceIdeal.Read
open Cert.Rank Cert.Pick Cert.Slots Cert.Sorted Cert.Block Cert.Run

/-- The hidden states and the weights. -/
abbrev Hid := S8192x2048.Idx → EReal
abbrev Wgt := S256x2048.Idx → EReal

variable (x0 : Hid) (x1 : Wgt) {L : Fin 8192 → Fin 256 → ℝ} (hL : ∀ t, Function.Injective (L t))
  (hlog : ∀ t e, val_main_v1 (F := Ideal) x0 x1 (ix2 t e) = (L t e : EReal))

include hL hlog

omit hL in
theorem groups_at (t : Fin 8192) (g : Fin 8) (k : Fin 32) :
    val_main_v2 (F := Ideal) x0 x1 (ix3 t g k) = (L t (inGroup g k) : EReal) := by
  have hi : idx_main_v2 (ix3 t g k) = ix2 t (inGroup g k) := by
    funext a
    match a with
    | ⟨0, _⟩ => exact Fin.ext (by show ((t.val * 8 + g.val) * 32 + k.val) / 256 = t.val; omega)
    | ⟨1, _⟩ => exact Fin.ext (by show ((t.val * 8 + g.val) * 32 + k.val) % 256 = g.val * 32 + k.val; omega)
  rw [val_main_v2_apply, hi]
  exact hlog t (inGroup g k)

/-- The first selection. -/
theorem four_at (t : Fin 8192) (g : Fin 8) (r : Fin 4) :
    val_main_values (F := Ideal) x0 x1 (ix3 t g r) = (L t (slot (L t) ⟨g.val * 4 + r.val, by omega⟩) : EReal)
      ∧ val_main_indices (F := Ideal) x0 x1 (ix3 t g r) = BitVec.ofNat 32 ((slot (L t) ⟨g.val * 4 + r.val, by omega⟩).val % 32) := by
  obtain ⟨p, hp, h1, h2⟩ := top_four (val_main_v2 (F := Ideal) x0 x1) t g (f := fun k => L t (inGroup g k))
    (fun _ _ h => inGroup_inj g (hL t h)) (groups_at x0 x1 hlog t g) r
  have hs : inGroup g p = slot (L t) ⟨g.val * 4 + r.val, by omega⟩ := by
    refine eq_slot (hL t) _ ?_ ?_
    · show (g.val * 32 + p.val) / 32 = (g.val * 4 + r.val) / 4
      omega
    · rw [← rk_inGroup, hp]
      show r.val = (g.val * 4 + r.val) % 4
      omega
  rw [← hs]
  refine ⟨h1, h2.trans (congrArg _ ?_)⟩
  show p.val = (g.val * 32 + p.val) % 32
  omega

theorem slots_at (t : Fin 8192) (n : Fin 32) : val_main_v3 (F := Ideal) x0 x1 (ix2 t n) = (L t (slot (L t) n) : EReal) := by
  have hi : idx_main_v3 (ix2 t n) = ix3 t ⟨n.val / 4, by omega⟩ ⟨n.val % 4, by omega⟩ := by
    funext a
    match a with
    | ⟨0, _⟩ => exact Fin.ext (by show (t.val * 32 + n.val) / 32 = t.val; omega)
    | ⟨1, _⟩ => exact Fin.ext (by show (t.val * 32 + n.val) / 4 % 8 = n.val / 4; omega)
    | ⟨2, _⟩ => exact Fin.ext (by show (t.val * 32 + n.val) % 4 = n.val % 4; omega)
  have hn : (⟨n.val / 4 * 4 + n.val % 4, by omega⟩ : Fin 32) = n := Fin.ext (by show n.val / 4 * 4 + n.val % 4 = n.val; omega)
  rw [val_main_v3_apply, hi]
  exact (four_at x0 x1 hL hlog t ⟨n.val / 4, by omega⟩ ⟨n.val % 4, by omega⟩).1.trans (congrArg (fun n => ((L t (slot (L t) n) : ℝ) : EReal)) hn)

theorem places_at (t : Fin 8192) (n : Fin 32) :
    val_main_v4 (F := Ideal) x0 x1 (ix2 t n) = BitVec.ofNat 32 ((slot (L t) n).val % 32) := by
  have hi : idx_main_v4 (ix2 t n) = ix3 t ⟨n.val / 4, by omega⟩ ⟨n.val % 4, by omega⟩ := by
    funext a
    match a with
    | ⟨0, _⟩ => exact Fin.ext (by show (t.val * 32 + n.val) / 32 = t.val; omega)
    | ⟨1, _⟩ => exact Fin.ext (by show (t.val * 32 + n.val) / 4 % 8 = n.val / 4; omega)
    | ⟨2, _⟩ => exact Fin.ext (by show (t.val * 32 + n.val) % 4 = n.val % 4; omega)
  have hn : (⟨n.val / 4 * 4 + n.val % 4, by omega⟩ : Fin 32) = n := Fin.ext (by show n.val / 4 * 4 + n.val % 4 = n.val; omega)
  rw [val_main_v4_apply, hi]
  exact (four_at x0 x1 hL hlog t ⟨n.val / 4, by omega⟩ ⟨n.val % 4, by omega⟩).2.trans (congrArg (fun n => BitVec.ofNat 32 ((slot (L t) n).val % 32)) hn)

/-- The second selection. -/
theorem eight_at (t : Fin 8192) (k : Fin 8) : val_main_values_0 (F := Ideal) x0 x1 (ix2 t k) = (L t (nth (L t) k.val) : EReal)
    ∧ ∃ p : Fin 32, slot (L t) p = nth (L t) k.val ∧ val_main_indices_1 (F := Ideal) x0 x1 (ix2 t k) = BitVec.ofNat 32 p.val := by
  obtain ⟨p, hp, h1, h2⟩ := top_eight (val_main_v3 (F := Ideal) x0 x1) t (slots_inj (hL t)) (slots_at x0 x1 hL hlog t) k
  have hs := slot_nth (hL t) (by omega) hp
  exact ⟨h1.trans (congrArg (fun e => ((L t e : ℝ) : EReal)) hs), p, hs, h2⟩

omit hL hlog

/-- The sign of a word. -/
def sgn (x : BitVec 32) : BitVec 32 := if x = 0 then 0 else if x.msb then -1 else 1

/-- Dividing a slot by four, with the correction a negative number would need. -/
theorem quarter : ∀ p : Fin 32, Scalar.select (IntOp.andi (IntOp.cmpi .ne (sgn (BitVec.ofNat 32 p.val)) (sgn 4#32))
      (IntOp.cmpi .ne (IntOp.remsi .host (BitVec.ofNat 32 p.val) 4#32) 0#32))
      (IntOp.subi (IntOp.divsi .host (BitVec.ofNat 32 p.val) 4#32) 1#32) (IntOp.divsi .host (BitVec.ofNat 32 p.val) 4#32)
    = BitVec.ofNat 32 (p.val / 4) := by decide +kernel

theorem quarter_at (i : S8192x8.Idx) (p : Fin 32) (h : val_main_indices_1 (F := Ideal) x0 x1 i = BitVec.ofNat 32 p.val) :
    val_main_v5 (F := Ideal) x0 x1 i = BitVec.ofNat 32 (p.val / 4) := by
  have h3 : val_main_call0_v3 (F := Ideal) x0 x1 i = sgn (BitVec.ofNat 32 p.val) := by
    rw [← h]
    unfold val_main_call0_v3
    rfl
  have h1 : val_main_call0_v1 (F := Ideal) i = 4#32 := rfl
  have h5 : val_main_call0_v5 (F := Ideal) i = sgn 4#32 := rfl
  have h7 : val_main_call0_v7 (F := Ideal) i = 4#32 := rfl
  have h9 : val_main_call0_v9 (F := Ideal) i = 0#32 := rfl
  have h12 : val_main_call0_v12 (F := Ideal) i = 1#32 := rfl
  rw [val_main_v5_apply, val_main_call0_v11_apply, val_main_call0_v13_apply, val_main_call0_v6_apply, val_main_call0_v10_apply,
    val_main_call0_v8_apply, val_main_call0_v2_apply, h3, h1, h5, h7, h9, h12, h]
  exact quarter p

/-- A slot's number is not negative, so the look-up keeps it. -/
theorem kept : ∀ p : Fin 32, Scalar.select (IntOp.cmpi .slt (BitVec.ofNat 32 p.val) 0#32) (IntOp.addi (BitVec.ofNat 32 p.val) 32#32)
    (BitVec.ofNat 32 p.val) = BitVec.ofNat 32 p.val := by decide +kernel

theorem kept_at (t : Fin 8192) (k : Fin 8) (z : Fin 1) (p : Fin 32)
    (h : val_main_indices_1 (F := Ideal) x0 x1 (ix2 t k) = BitVec.ofNat 32 p.val) :
    val_main_call1_v5 (F := Ideal) x0 x1 (ix3 t k z) = BitVec.ofNat 32 p.val := by
  have hi : idx_main_call1_v5 (ix3 t k z) = ix2 t k := by
    have := z.isLt
    funext a
    match a with
    | ⟨0, _⟩ => exact Fin.ext (by show ((t.val * 8 + k.val) * 1 + z.val) / 8 = t.val; omega)
    | ⟨1, _⟩ => exact Fin.ext (by show ((t.val * 8 + k.val) * 1 + z.val) % 8 = k.val; omega)
  have h0 : val_main_call1_v0 (F := Ideal) (ix2 t k) = 0#32 := rfl
  have h2 : val_main_call1_v2 (F := Ideal) (ix2 t k) = 32#32 := rfl
  rw [val_main_call1_v5_apply, hi, val_main_call1_v4_apply, val_main_call1_v1_apply, val_main_call1_v3_apply, h0, h2, h]
  exact kept p

/-- It is inside the row. -/
theorem inside : ∀ p : Fin 32, IntOp.andi (IntOp.cmpi .sge (BitVec.ofNat 32 p.val) 0#32) (IntOp.cmpi .sle (BitVec.ofNat 32 p.val) 31#32)
    = 1#1 := by decide +kernel

/-- The last axis of the checks has one entry. -/
theorem checks : S8192x8x1.Reduces [2] S8192x8 := by decide

theorem check_one (x : S8192x8x1.Idx → BitVec 1) (y : S_.Idx → BitVec 1) (hy : ∀ i, y i = 1#1) (t : Fin 8192) (k : Fin 8)
    (hx : ∀ z : Fin 1, x (ix3 t k z) = 1#1) :
    Host.reduce IntOp.andi x y reducesTo_S8192x8x1_S8192x8_d2 h_S_ (ix2 t k) = 1#1 := by
  refine (Host.reduce_eq_fold_single IntOp.andi x y reducesTo_S8192x8x1_S8192x8_d2 checks h_S_ (ix2 t k)).trans ?_
  have hl : ∀ z : Fin 1, x (checks.lift (ix2 t k) z) = 1#1 := by
    intro z
    refine Eq.trans (congrArg x ?_) (hx z)
    funext a
    match a with
    | ⟨0, _⟩ => rfl
    | ⟨1, _⟩ => rfl
    | ⟨2, _⟩ => rfl
  have key : ∀ f : Fin 1 → BitVec 1, (∀ z, f z = 1#1) → (Finset.univ : Finset (Fin 1)).fold IntOp.andi 1#1 f = 1#1 := by
    intro f hf
    rw [Finset.univ_unique, Finset.fold_singleton, hf]
    decide
  rw [hy]
  exact key _ hl

theorem inside_at (t : Fin 8192) (k : Fin 8) (p : Fin 32)
    (h : val_main_indices_1 (F := Ideal) x0 x1 (ix2 t k) = BitVec.ofNat 32 p.val) :
    val_main_call1_v12 (F := Ideal) x0 x1 (ix2 t k) = 1#1 := by
  unfold val_main_call1_v12
  refine check_one _ _ (fun _ => rfl) t k fun z => ?_
  have h6 : val_main_call1_v6 (F := Ideal) (ix3 t k z) = 0#32 := rfl
  have h9 : val_main_call1_v9 (F := Ideal) (ix3 t k z) = 31#32 := rfl
  rw [val_main_call1_v11_apply, val_main_call1_v7_apply, val_main_call1_v10_apply, kept_at x0 x1 t k z p h, h6, h9]
  exact inside p

/-- The look-up in a row. -/
theorem gather_row (x : IVec S8192x32 32) (idx : IVec S8192x8x1 32) (t : Fin 8192) (k : Fin 8) :
    Host.gather gather_S8192x32_S8192x8x1_S8192x8_n_1_0_0_1_2_11 x idx (ix2 t k)
      = x (ix2 t ⟨min (idx (ix3 t k 0)).toInt.toNat 31, by omega⟩) := by
  unfold Host.gather
  congr 1
  funext a
  apply Fin.ext
  show GatherDims.start _ (ix2 t k) idx a + GatherDims.batchCoord _ (ix2 t k) a + GatherDims.offCoord _ (ix2 t k) a = _
  have h01 : a = 0 ∨ a = 1 := by
    match a with
    | ⟨0, _⟩ => exact Or.inl rfl
    | ⟨1, _⟩ => exact Or.inr rfl
  rcases h01 with rfl | rfl
  · rw [GatherDims.offCoord_eq_zero _ _ _ fun h => ((GatherDims.mem_sKept _ _).mp h).2 (List.mem_singleton.mpr rfl),
      GatherDims.start_batching _ _ _ _ (List.mem_singleton.mpr rfl)]
    unfold GatherDims.batchCoord
    rw [dif_pos (show (0 : Fin 2) ∈ gather_S8192x32_S8192x8x1_S8192x8_n_1_0_0_1_2_11.operandBatchingDims from List.mem_singleton.mpr rfl)]
    exact (Nat.zero_add _).trans rfl
  · rw [GatherDims.offCoord_eq_zero _ _ _ fun h => ((GatherDims.mem_sKept _ _).mp h).1 (List.mem_singleton.mpr rfl),
      GatherDims.batchCoord_eq_zero _ _ _ fun h => absurd (List.mem_singleton.mp h) (by decide)]
    unfold GatherDims.start
    rw [dif_pos (show (1 : Fin 2) ∈ gather_S8192x32_S8192x8x1_S8192x8_n_1_0_0_1_2_11.startIndexMap from List.mem_singleton.mpr rfl)]
    have hs : ∀ q, gather_S8192x32_S8192x8x1_S8192x8_n_1_0_0_1_2_11.siIdx (ix2 t k) q = ix3 t k 0 := by
      intro q
      funext b
      apply Fin.ext
      match b with
      | ⟨0, _⟩ => rfl
      | ⟨1, _⟩ => rfl
      | ⟨2, _⟩ =>
        have hq : q.val = 0 := by
          have : q.val < 1 := q.isLt
          omega
        exact hq
    rw [hs]
    rfl

theorem slot_word : ∀ p : Fin 32, min (BitVec.ofNat 32 p.val).toInt.toNat 31 = p.val := by decide +kernel

include hL hlog

/-- The place in the group, looked up. -/
theorem looked_up (t : Fin 8192) (k : Fin 8) (p : Fin 32)
    (h : val_main_indices_1 (F := Ideal) x0 x1 (ix2 t k) = BitVec.ofNat 32 p.val) :
    val_main_v6 (F := Ideal) x0 x1 (ix2 t k) = BitVec.ofNat 32 ((slot (L t) p).val % 32) := by
  have hone : ∀ a b : BitVec 32, Scalar.select 1#1 a b = a := fun _ _ => rfl
  have hg : val_main_call1_v13 (F := Ideal) x0 x1 (ix2 t k) = val_main_v4 (F := Ideal) x0 x1 (ix2 t p) := by
    unfold val_main_call1_v13
    refine (gather_row _ _ t k).trans (congrArg (fun n => val_main_v4 (F := Ideal) x0 x1 (ix2 t n)) (Fin.ext ?_))
    show min (val_main_call1_v5 (F := Ideal) x0 x1 (ix3 t k 0)).toInt.toNat 31 = p.val
    rw [kept_at x0 x1 t k 0 p h]
    exact slot_word p
  rw [val_main_v6_apply, inside_at x0 x1 t k p h, hone, hg]
  exact places_at x0 x1 hL hlog t p

/-- The reference's experts. -/
theorem experts (t : Fin 8192) (k : Fin 8) : val_main_v9 (F := Ideal) x0 x1 (ix2 t k) = BitVec.ofNat 32 (nth (L t) k.val).val := by
  obtain ⟨-, p, hp, h⟩ := eight_at x0 x1 hL hlog t k
  have h5 := quarter_at x0 x1 (ix2 t k) p h
  have h6 := looked_up x0 x1 hL hlog t k p h
  have hg := (slot_spec (hL t) p).1
  have h7 : val_main_v7 (F := Ideal) (ix2 t k) = 32#32 := rfl
  rw [val_main_v9_apply, val_main_v8_apply, h7, h5, h6, ← hp]
  have hs := (slot (L t) p).isLt
  refine BitVec.eq_of_toNat_eq ?_
  show (BitVec.ofNat 32 (p.val / 4) * 32#32 + BitVec.ofNat 32 ((slot (L t) p).val % 32)).toNat = _
  rw [BitVec.toNat_add, BitVec.toNat_mul, BitVec.toNat_ofNat, BitVec.toNat_ofNat, BitVec.toNat_ofNat, BitVec.toNat_ofNat]
  omega

/-- The reference's weights. -/
theorem weights_at (t : Fin 8192) (k : Fin 8) : val_main_v15 (F := Ideal) x0 x1 (ix2 t k) = weightOf (L t) k := by
  have hz : val_main_cst (F := Ideal) (Shape.Idx.first h_S_) = 0 := Ideal.ofBits_zero_f32
  have h14 : idx_main_v14 (ix2 t k) = ix2 t 0 := by
    funext a
    match a with
    | ⟨0, _⟩ => rfl
    | ⟨1, _⟩ => rfl
  have h11 : idx_main_v11 (ix2 t 0) = ix1 t := by
    funext a
    match a with
    | ⟨0, _⟩ => rfl
  have h10 : ∀ j : Fin 8, idx_main_v10 (ix1 t) j = ix2 t j := by
    intro j
    funext a
    match a with
    | ⟨0, _⟩ => rfl
    | ⟨1, _⟩ => rfl
  have h12 : val_main_v12 (F := Ideal) (ix2 t 0) = tiny := rfl
  have hall : ∀ j : Fin 8, val_main_values_0 (F := Ideal) x0 x1 (idx_main_v10 (ix1 t) j) = (L t (nth (L t) j.val) : EReal) := fun j => by
    rw [h10]
    exact (eight_at x0 x1 hL hlog t j).1
  rw [val_main_v15_apply, val_main_v14_apply, h14, val_main_v13_apply, val_main_v11_apply, h11, val_main_v10_apply, hz, zero_add,
    Finset.sum_congr rfl fun j _ => hall j, h12, (eight_at x0 x1 hL hlog t k).1]
  rfl

end Cert.RefPick

end
-- ==== Proof.Logits.lean ====
/- What the precondition says of the logits: each is a real number, and the 256 of one token are different. And the reference's
   logits are the same sums as the kernel's. -/
module

public import proofs.«01_k».proof.Pre_separated
public import proofs.«01_k».proof.Proof.RefPick

@[expose] public section

noncomputable section

namespace Cert.Logits

open Idealize.ShloMosaic Idealize.ShloMosaic.ValueIdx Cert.Pre_separated Cert.Weights

/-- The precondition's logits. -/
def product [Facts] (x0 : S8192x2048.Idx → EReal) (x1 : S256x2048.Idx → EReal) : S8192x256.Idx → EReal :=
  Host.dotGeneral (F := Ideal) (φ₁ := .f32) (φ₂ := .f32) dot_S8192x2048_S256x2048_S8192x256_1_1_0_0_n_n none x0 x1

theorem product_apply [Facts] (x0 : S8192x2048.Idx → EReal) (x1 : S256x2048.Idx → EReal) (t : Fin 8192) (e : Fin 256) :
    product x0 x1 (ix2 t e) = logit x0 x1 t e := by
  unfold product Host.dotGeneral
  refine (Ideal.dotGeneral_apply _ _ _ _ _ _).trans ?_
  refine (Equiv.sum_comp (contrEquiv1 dot_S8192x2048_S256x2048_S8192x256_1_1_0_0_n_n 2048 rfl rfl).symm _).symm.trans ?_
  refine Finset.sum_congr rfl fun k _ => congrArg₂ (· * ·) (congrArg x0 ?_) (congrArg x1 ?_)
  · funext a
    match a with
    | ⟨0, _⟩ => rfl
    | ⟨1, _⟩ => rfl
  · funext a
    match a with
    | ⟨0, _⟩ => rfl
    | ⟨1, _⟩ => rfl

/-- Two bits are both one if their conjunction is. -/
theorem and_one : ∀ a b : BitVec 1, IntOp.andi a b = 1#1 → a = 1#1 ∧ b = 1#1 := by decide

theorem or_one : ∀ a b : BitVec 1, IntOp.ori a b = 1#1 → a = 1#1 ∨ b = 1#1 := by decide

theorem top_f32 : Ideal.ofBits .f32 0x7F800000#32 = ⊤ := by
  simp [Ideal.ofBits, Ideal.ieee]

/-- The precondition of two logits, at two experts. -/
def conj (a b : EReal) (e e' : Fin 256) : BitVec 1 :=
  IntOp.andi (Ideal.cmp .olt (max a (-a)) (Ideal.ofBits .f32 0x7F800000#32))
    (IntOp.ori (IntOp.cmpi .eq (BitVec.ofNat 32 e.val) (BitVec.ofNat 32 e'.val)) (Ideal.cmp .une a b))

/-- The precondition's last lines, of any two arrays. -/
def whole [Facts] (A B : FVec Ideal S8192x256x256 .f32) : IVec S8192x256x256 1 :=
  andi (cmpf .olt (Host.absf A) (broadcastInDim S8192x256x256 ![] Facts.bcast_S_S8192x256x256 (constant S_ .f32 0x7F800000#32)))
    (ori (cmpi .eq (iotaInDim S8192x256x256 32 1) (iotaInDim S8192x256x256 32 2)) (cmpf .une A B))

theorem at_point [Facts] (A B : FVec Ideal S8192x256x256 .f32) (t : Fin 8192) (e e' : Fin 256) :
    whole A B (ix3 t e e') = conj (A (ix3 t e e')) (B (ix3 t e e')) e e' := rfl

theorem fn_eq [Facts] (x0 : S8192x2048.Idx → EReal) (x1 : S256x2048.Idx → EReal) : fn (F := Ideal) x0 x1
    = whole (broadcastInDim S8192x256x256 ![0, 1] Facts.bcast_S8192x256_S8192x256x256_0_1 (product x0 x1))
      (broadcastInDim S8192x256x256 ![0, 2] Facts.bcast_S8192x256_S8192x256x256_0_2 (product x0 x1)) := by
  unfold fn whole product
  rfl

/-- The precondition at one token and two experts. -/
theorem entry [Facts] (x0 : S8192x2048.Idx → EReal) (x1 : S256x2048.Idx → EReal) (h : fn (F := Ideal) x0 x1 = fun _ => 1#1)
    (t : Fin 8192) (e e' : Fin 256) : Ideal.cmp .olt (max (logit x0 x1 t e) (-logit x0 x1 t e)) (Ideal.ofBits .f32 0x7F800000#32) = 1#1
      ∧ (IntOp.cmpi .eq (BitVec.ofNat 32 e.val) (BitVec.ofNat 32 e'.val) = 1#1
        ∨ Ideal.cmp .une (logit x0 x1 t e) (logit x0 x1 t e') = 1#1) := by
  have hl : broadcastInDim S8192x256x256 ![0, 1] Facts.bcast_S8192x256_S8192x256x256_0_1 (product x0 x1) (ix3 t e e') = logit x0 x1 t e := by
    refine (broadcastInDim_apply _ _ _ _ (ix2 t e) fun a => ?_).trans (product_apply x0 x1 t e)
    match a with
    | ⟨0, _⟩ => rfl
    | ⟨1, _⟩ => rfl
  have hr : broadcastInDim S8192x256x256 ![0, 2] Facts.bcast_S8192x256_S8192x256x256_0_2 (product x0 x1) (ix3 t e e') = logit x0 x1 t e' := by
    refine (broadcastInDim_apply _ _ _ _ (ix2 t e') fun a => ?_).trans (product_apply x0 x1 t e')
    match a with
    | ⟨0, _⟩ => rfl
    | ⟨1, _⟩ => rfl
  rw [fn_eq] at h
  have hi' := (at_point _ _ t e e').symm.trans (congrFun h (ix3 t e e'))
  rw [hl, hr] at hi'
  obtain ⟨h1, h2⟩ := and_one _ _ hi'
  exact ⟨h1, or_one _ _ h2⟩

/-- A comparison's bit. -/
theorem bit_one {p : Prop} [Decidable p] (h : BitVec.ofBool (decide p) = 1#1) : p := by
  by_contra hp
  rw [decide_eq_false hp] at h
  exact absurd h (by decide)

/-- The logits as real numbers. -/
def real (x0 : S8192x2048.Idx → EReal) (x1 : S256x2048.Idx → EReal) (t : Fin 8192) (e : Fin 256) : ℝ := (logit x0 x1 t e).toReal

theorem real_eq [Facts] (x0 : S8192x2048.Idx → EReal) (x1 : S256x2048.Idx → EReal) (h : fn (F := Ideal) x0 x1 = fun _ => 1#1)
    (t : Fin 8192) (e : Fin 256) : logit x0 x1 t e = (real x0 x1 t e : EReal) := by
  have h1 := (entry x0 x1 h t e e).1
  rw [top_f32] at h1
  have hlt : max (logit x0 x1 t e) (-logit x0 x1 t e) < ⊤ := bit_one h1
  refine (EReal.coe_toReal ?_ ?_).symm
  · intro hc
    rw [hc] at hlt
    simp at hlt
  · intro hc
    rw [hc] at hlt
    simp at hlt

theorem real_inj [Facts] (x0 : S8192x2048.Idx → EReal) (x1 : S256x2048.Idx → EReal) (h : fn (F := Ideal) x0 x1 = fun _ => 1#1)
    (t : Fin 8192) : Function.Injective (real x0 x1 t) := by
  intro e e' he
  rcases (entry x0 x1 h t e e').2 with h2 | h2
  · have hw : BitVec.ofNat 32 e.val = BitVec.ofNat 32 e'.val := by
      by_contra hc
      have : IntOp.cmpi .eq (BitVec.ofNat 32 e.val) (BitVec.ofNat 32 e'.val) = 0#1 := by
        show BitVec.ofBool (BitVec.ofNat 32 e.val == BitVec.ofNat 32 e'.val) = _
        rw [beq_eq_false_iff_ne.mpr hc]
        rfl
      rw [this] at h2
      exact absurd h2 (by decide)
    have hv := congrArg BitVec.toNat hw
    rw [BitVec.toNat_ofNat, BitVec.toNat_ofNat] at hv
    exact Fin.ext (by omega)
  · have hne : logit x0 x1 t e ≠ logit x0 x1 t e' := bit_one h2
    exact absurd ((real_eq x0 x1 h t e).trans ((congrArg _ he).trans (real_eq x0 x1 h t e').symm)) hne

/-- The reference multiplies by the transposed weights: the same sums. -/
theorem reference_logit (x0 : S8192x2048.Idx → EReal) (x1 : S256x2048.Idx → EReal) (t : Fin 8192) (e : Fin 256) :
    Cert.ReferenceIdeal.Read.val_main_v1 (F := Ideal) x0 x1 (ix2 t e) = logit x0 x1 t e := by
  rw [Cert.ReferenceIdeal.Read.val_main_v1_apply]
  unfold logit
  refine Finset.sum_congr rfl fun k _ => ?_
  rw [Cert.ReferenceIdeal.Read.val_main_v0_apply]
  refine congrArg₂ (· * ·) (congrArg x0 ?_) (congrArg x1 ?_)
  · funext a
    match a with
    | ⟨0, _⟩ => rfl
    | ⟨1, _⟩ => rfl
  · funext a
    match a with
    | ⟨0, _⟩ => rfl
    | ⟨1, _⟩ => rfl

end Cert.Logits

end
-- ==== Proof.Arrays.lean ====
/- The three results of the kernel, whole: every token's indices and weights, and the loss. -/
module

public import proofs.«01_k».proof.Proof.Run
public import Idealize.ShloMosaic.Lib.Pipeline.Value
public import Idealize.ShloMosaic.Lib.Claim

@[expose] public section

noncomputable section

namespace Cert.Arrays

open Idealize.ShloMosaic Idealize.ShloMosaic.ValueIdx Idealize.ShloMosaic.TcCoe Idealize.SL.Sem
open Idealize.ShloMosaic.Pipeline (Dat)
open Cert.KernelIdeal Cert.KernelIdeal.Gen Cert.Pick Cert.Block Cert.Sums Cert.Weights Cert.Run

/-- Every token's eight experts, in order of their logits. -/
def indices (L : Fin 8192 → Fin 256 → ℝ) : S8192x8.Idx → BitVec 32 := fun i => BitVec.ofNat 32 (nth (L (i 0)) (i 1).val).val

/-- Their weights. -/
def weights (L : Fin 8192 → Fin 256 → ℝ) : S8192x8.Idx → EReal := fun i => weightOf (L (i 0)) (i 1)

/-- The loss. -/
def loss (L : Fin 8192 → Fin 256 → ℝ) : EReal :=
  lossOf (fun e => ((∑ t, mark (L t) e : ℝ) : EReal)) fun e => ((∑ t, prob (L t) e : ℝ) : EReal)

variable (m : (ℓ : Loc nD τ sig) → Buf (Elt Ideal) ℓ) (ρ : Dev nD → PrngReg) (c : Dev nD)
variable {L : Fin 8192 → Fin 256 → ℝ} (hL : ∀ t, Function.Injective (L t))
  (hlog : ∀ t e, logit (hid m c) (wgt m c) t e = (L t e : EReal))

/-- Point `t` writes rows `256 t` to `256 t + 255` of the indices. -/
theorem place2 : ∀ t : Fin cfg0.N, win0_2.flush t = true ∧ win0_2.index t (0 : Fin 2) = t.val ∧ win0_2.index t (1 : Fin 2) = 0 :=
  (by decide +kernel : ∀ t : Fin grid0.N, _)

/-- And of the weights. -/
theorem place3 : ∀ t : Fin cfg0.N, win0_3.flush t = true ∧ win0_3.index t (0 : Fin 2) = t.val ∧ win0_3.index t (1 : Fin 2) = 0 :=
  (by decide +kernel : ∀ t : Fin grid0.N, _)

/-- Only the last point writes the loss. -/
theorem place4 : ∀ t : Fin cfg0.N, (win0_4.flush t = true ↔ t.val = 31) ∧ win0_4.index t (0 : Fin 2) = 0 ∧ win0_4.index t (1 : Fin 2) = 0 :=
  (by decide +kernel : ∀ t : Fin grid0.N, _)

/-- The block that holds row `i`. -/
theorem point_of (n : ℕ) (hn : n < 32) : ∃ t : Fin cfg0.N, t.val = n := ⟨⟨n, lt_of_lt_of_eq hn N_0.symm⟩, rfl⟩

include hL hlog

theorem indices_array : (dats m 0 c).arrAt 2 cfg0.N = indices L := by
  refine (dats m 0 c).arrAt_eq_of_cover 2 _ (fun t _ => ?_) fun i => ?_
  · show (cfg0.win 2).cut (grid0.coords t) ((dats m 0 c).after 2 t) = _
    rw [after0_2]
    obtain ⟨-, i0, i1⟩ := place2 t
    funext y
    have hx : (cfg0.win 2).xinj (grid0.coords t) y = (ix2 ⟨(y 0).val, (y 0).isLt⟩ ⟨(y 1).val, (y 1).isLt⟩ : S256x8.Idx) := by
      funext a
      match a with
      | ⟨0, _⟩ => rfl
      | ⟨1, _⟩ => rfl
    have h0 : ((cfg0.win 2).blk t).view.emb y 0 = tok (blk t) ⟨(y 0).val, (y 0).isLt⟩ := Fin.ext (by
      show win0_2.index t (0 : Fin 2) * 256 + 1 * (y 0).val = t.val * 256 + (y 0).val
      rw [i0]; omega)
    have h1 : ((cfg0.win 2).blk t).view.emb y 1 = (⟨(y 1).val, (y 1).isLt⟩ : Fin 8) := Fin.ext (by
      show win0_2.index t (1 : Fin 2) * 8 + 1 * (y 1).val = (y 1).val
      rw [i1]; omega)
    show (outsAt0 m c t.val t.isLt).1 ((cfg0.win 2).xinj (grid0.coords t) y) = indices L (((cfg0.win 2).blk t).view.emb y)
    refine (congrArg _ hx).trans ((index_at m c hL hlog t _ _).trans ?_)
    exact congrArg₂ (fun s (k : Fin 8) => BitVec.ofNat 32 (nth (L s) k.val).val) h0.symm h1.symm
  · have hi0 : (i 0).val < 8192 := (i 0).isLt
    have hi1 : (i 1).val < 8 := (i 1).isLt
    obtain ⟨t, ht⟩ := point_of ((i 0).val / 256) (by omega)
    obtain ⟨hf, i0, i1⟩ := place2 t
    refine ⟨t, hf, ?_⟩
    show i ∈ ((View.whole main_v6_0).slice (win0_2.rect t)).set
    rw [View.set_slice_whole, Rect.mem_set_unit]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 8 ≤ (i 1).val ∧ (i 1).val < win0_2.index t (1 : Fin 2) * 8 + 8; omega

theorem weights_array : (dats m 0 c).arrAt 3 cfg0.N = weights L := by
  refine (dats m 0 c).arrAt_eq_of_cover 3 _ (fun t _ => ?_) fun i => ?_
  · show (cfg0.win 3).cut (grid0.coords t) ((dats m 0 c).after 3 t) = _
    rw [after0_3]
    obtain ⟨-, i0, i1⟩ := place3 t
    funext y
    have hx : (cfg0.win 3).xinj (grid0.coords t) y = (ix2 ⟨(y 0).val, (y 0).isLt⟩ ⟨(y 1).val, (y 1).isLt⟩ : S256x8.Idx) := by
      funext a
      match a with
      | ⟨0, _⟩ => rfl
      | ⟨1, _⟩ => rfl
    have h0 : ((cfg0.win 3).blk t).view.emb y 0 = tok (blk t) ⟨(y 0).val, (y 0).isLt⟩ := Fin.ext (by
      show win0_3.index t (0 : Fin 2) * 256 + 1 * (y 0).val = t.val * 256 + (y 0).val
      rw [i0]; omega)
    have h1 : ((cfg0.win 3).blk t).view.emb y 1 = (⟨(y 1).val, (y 1).isLt⟩ : Fin 8) := Fin.ext (by
      show win0_3.index t (1 : Fin 2) * 8 + 1 * (y 1).val = (y 1).val
      rw [i1]; omega)
    show (outsAt0 m c t.val t.isLt).2.1 ((cfg0.win 3).xinj (grid0.coords t) y) = weights L (((cfg0.win 3).blk t).view.emb y)
    refine (congrArg _ hx).trans ((weight_at m c hL hlog t _ _).trans ?_)
    exact congrArg₂ (fun s (k : Fin 8) => weightOf (L s) k) h0.symm h1.symm
  · have hi0 : (i 0).val < 8192 := (i 0).isLt
    have hi1 : (i 1).val < 8 := (i 1).isLt
    obtain ⟨t, ht⟩ := point_of ((i 0).val / 256) (by omega)
    obtain ⟨hf, i0, i1⟩ := place3 t
    refine ⟨t, hf, ?_⟩
    show i ∈ ((View.whole main_v6_1).slice (win0_3.rect t)).set
    rw [View.set_slice_whole, Rect.mem_set_unit]
    intro a
    match a with
    | ⟨0, _⟩ => show win0_3.index t (0 : Fin 2) * 256 ≤ (i 0).val ∧ (i 0).val < win0_3.index t (0 : Fin 2) * 256 + 256; omega
    | ⟨1, _⟩ => show win0_3.index t (1 : Fin 2) * 8 ≤ (i 1).val ∧ (i 1).val < win0_3.index t (1 : Fin 2) * 8 + 8; omega

theorem loss_array : (dats m 0 c).arrAt 4 cfg0.N = (fun _ => loss L : S1x1.Idx → EReal) := by
  refine (dats m 0 c).arrAt_eq_of_cover 4 _ (fun t hf => ?_) fun i => ?_
  · show (cfg0.win 4).cut (grid0.coords t) ((dats m 0 c).after 4 t) = _
    rw [after0_4]
    funext y
    have h0 : (y 0).val < 1 := (y 0).isLt
    have h1 : (y 1).val < 1 := (y 1).isLt
    have hx : (cfg0.win 4).xinj (grid0.coords t) y = (ix2 0 0 : S1x1.Idx) := by
      funext a
      match a with
      | ⟨0, _⟩ => exact Fin.ext (by show (y 0).val = 0; omega)
      | ⟨1, _⟩ => exact Fin.ext (by show (y 1).val = 0; omega)
    show (outsAt0 m c t.val t.isLt).2.2.1 ((cfg0.win 4).xinj (grid0.coords t) y) = loss L
    exact (congrArg _ hx).trans (loss_at m c hL hlog t ((place4 t).1.mp hf))
  · have hi0 : (i 0).val < 1 := (i 0).isLt
    have hi1 : (i 1).val < 1 := (i 1).isLt
    obtain ⟨t, ht⟩ := point_of 31 (by omega)
    obtain ⟨hf, i0, i1⟩ := place4 t
    refine ⟨t, hf.mpr ht, ?_⟩
    show i ∈ ((View.whole main_call0_v0_2).slice (win0_4.rect t)).set
    rw [View.set_slice_whole, Rect.mem_set_unit]
    intro a
    match a with
    | ⟨0, _⟩ => show win0_4.index t (0 : Fin 2) * 1 ≤ (i 0).val ∧ (i 0).val < win0_4.index t (0 : Fin 2) * 1 + 1; omega
    | ⟨1, _⟩ => show win0_4.index t (1 : Fin 2) * 1 ≤ (i 1).val ∧ (i 1).val < win0_4.index t (1 : Fin 2) * 1 + 1; omega

/-- The line after the grid drops the loss's two unit axes. -/
theorem loss_result : Pipeline.afterTail₀ cfgs (dats m) 0 (V0 m) [hostOps1] c main_v6_2 = (fun _ => loss L : S_.Idx → EReal) := by
  unfold Pipeline.afterTail₀
  have h : ∀ V : Valuation τ sig (Elt Ideal), V (Proc.devRef .tc main_call0_v0_2) = (fun _ => loss L : S1x1.Idx → EReal) →
      StableHlo.after [hostOps1].flatten V (Proc.devRef .tc main_v6_2) = (fun _ => loss L : S_.Idx → EReal) := by
    intro V hV
    show StableHlo.after hostOps1 V _ = _
    after_results
    funext i
    exact congrFun hV _
  refine h _ ?_
  exact ((dats m 0 c).withArrays_arrAt (by decide) (V0 m c) (A_eq m c) 4).trans (loss_array m c hL hlog)

end Cert.Arrays

end
-- ==== Proof.RefLoss.lean ====
/- The reference's loss, read off its operations. The one-hot rows of all 65536 choices add up to the numbers of tokens that chose
   an expert; a softmax does not change when the same number is taken off every logit of a row. -/
module

public import proofs.«01_k».proof.Proof.RefPick
public import proofs.«01_k».proof.Proof.Arrays

@[expose] public section

noncomputable section

namespace Cert.RefLoss

open Idealize.ShloMosaic Idealize.ShloMosaic.ValueIdx Cert.ReferenceIdeal Cert.ReferenceIdeal.Gen Cert.ReferenceIdeal.Read
open Cert.Rank Cert.Pick Cert.Slots Cert.Sums Cert.Block Cert.Run Cert.RefPick

/-! ## Two facts about sums -/

/-- A choice is made at most once, so the one-hot row of a token's eight choices adds up to its mark. -/
theorem sum_hot {L : Fin 256 → ℝ} (hL : Function.Injective L) (e : Fin 256) :
    ∑ k : Fin 8, (if nth L k.val = e then (1 : ℝ) else 0) = mark L e := by
  classical
  unfold mark
  by_cases h : Chosen L e
  · rw [if_pos h]
    obtain ⟨k, rfl⟩ := (chosen_iff hL e).mp h
    rw [Finset.sum_eq_single k (fun j _ hj => if_neg fun hc => hj (Fin.ext (nth_inj hL (by omega) (by omega) hc)))
      fun hk => absurd (Finset.mem_univ k) hk]
    exact if_pos rfl
  · rw [if_neg h]
    exact Finset.sum_eq_zero fun k _ => if_neg fun hc => h ((chosen_iff hL e).mpr ⟨k, hc⟩)

/-- Choice `n` of all is choice `n % 8` of token `n / 8`. -/
theorem sum_choices {M : Type} [AddCommMonoid M] (f : Fin 8192 → Fin 8 → M) :
    ∑ n : Fin 65536, f ⟨n.val / 8, by omega⟩ ⟨n.val % 8, by omega⟩ = ∑ t, ∑ k, f t k := by
  rw [← Fintype.sum_prod_type' f]
  refine Function.Bijective.sum_comp (e := fun n : Fin 65536 => ((⟨n.val / 8, by omega⟩ : Fin 8192), (⟨n.val % 8, by omega⟩ : Fin 8)))
    ((Fintype.bijective_iff_injective_and_card _).mpr ⟨?_, by simp⟩) fun p : Fin 8192 × Fin 8 => f p.1 p.2
  intro n n' h
  have h1 : n.val / 8 = n'.val / 8 := congrArg (fun p => p.1.val) h
  have h2 : n.val % 8 = n'.val % 8 := congrArg (fun p => p.2.val) h
  exact Fin.ext (by omega)

/-- Taking the same number off every logit. -/
theorem prob_shift (L : Fin 256 → ℝ) (M : ℝ) (e : Fin 256) :
    Real.exp (L e - M) * (1 / ∑ e', Real.exp (L e' - M)) = prob L e := by
  unfold prob
  have hs : ∑ e', Real.exp (L e' - M) = (∑ e', Real.exp (L e')) / Real.exp M := by
    rw [Finset.sum_div]
    exact Finset.sum_congr rfl fun e' _ => Real.exp_sub _ _
  rw [hs, Real.exp_sub, one_div_div, div_mul_div_cancel₀ (Real.exp_pos M).ne']

/-- The largest of finitely many numbers is a number. -/
theorem fold_real {n : ℕ} (f : Fin (n + 1) → ℝ) {b : EReal} (hb : b < ⊤) :
    ∃ r : ℝ, (Finset.univ : Finset (Fin (n + 1))).fold max b (fun i => (f i : EReal)) = (r : EReal) := by
  have htop : (Finset.univ : Finset (Fin (n + 1))).fold max b (fun i => (f i : EReal)) < ⊤ :=
    (Finset.fold_max_lt _).mpr ⟨hb, fun i _ => EReal.coe_lt_top _⟩
  have hbot : ⊥ < (Finset.univ : Finset (Fin (n + 1))).fold max b (fun i => (f i : EReal)) :=
    (Finset.lt_fold_max _).mpr (Or.inr ⟨0, Finset.mem_univ _, EReal.bot_lt_coe _⟩)
  exact ⟨_, (EReal.coe_toReal htop.ne hbot.ne').symm⟩

/-! ## The literals -/

theorem tokens_f32 : Ideal.ofBits .f32 0x46000000#32 = ((8192 : ℝ) : EReal) := by
  simp [Ideal.ofBits, Ideal.ieee, -EReal.coe_mul]
  norm_num

theorem eight_f32 : Ideal.ofBits .f32 0x41000000#32 = ((8 : ℝ) : EReal) := by
  simp [Ideal.ofBits, Ideal.ieee, -EReal.coe_mul]
  norm_num

theorem choices_f32 : Ideal.ofBits .f32 0x47800000#32 = ((65536 : ℝ) : EReal) := by
  simp [Ideal.ofBits, Ideal.ieee, -EReal.coe_mul]
  norm_num

theorem bottom_f32 : Ideal.ofBits .f32 0xFF800000#32 = ⊥ := by
  simp [Ideal.ofBits, Ideal.ieee]

/-! ## The reference's lines -/

variable (x0 : Hid) (x1 : Wgt) {L : Fin 8192 → Fin 256 → ℝ} (hL : ∀ t, Function.Injective (L t))
  (hlog : ∀ t e, val_main_v1 (F := Ideal) x0 x1 (ix2 t e) = (L t e : EReal))

/-- Comparing the words of two experts and reading the answer as a number. -/
theorem hot_word (e e' : Fin 256) :
    (((IntOp.cmpi .eq (BitVec.ofNat 32 e.val) (BitVec.ofNat 32 e'.val)).toNat : ℝ) : EReal) = ((if e = e' then (1 : ℝ) else 0 : ℝ) : EReal) := by
  have hw : IntOp.cmpi .eq (BitVec.ofNat 32 e.val) (BitVec.ofNat 32 e'.val) = if e = e' then 1#1 else 0#1 := by
    show BitVec.ofBool (BitVec.ofNat 32 e.val == BitVec.ofNat 32 e'.val) = _
    by_cases h : e = e'
    · rw [if_pos h, h, beq_self_eq_true]
      rfl
    · rw [if_neg h, beq_eq_false_iff_ne.mpr]
      · rfl
      · intro hc
        have hv := congrArg BitVec.toNat hc
        rw [BitVec.toNat_ofNat, BitVec.toNat_ofNat] at hv
        exact h (Fin.ext (by omega))
  rw [hw]
  by_cases h : e = e'
  · rw [if_pos h, if_pos h]
    norm_num
  · rw [if_neg h, if_neg h]
    norm_num

include hL hlog

theorem hot_at (n : Fin 65536) (e : Fin 256) : val_main_v17 (F := Ideal) x0 x1 (ix2 n e)
    = ((if nth (L ⟨n.val / 8, by omega⟩) (n.val % 8) = e then (1 : ℝ) else 0 : ℝ) : EReal) := by
  have h2 : idx_main_call2_v2 (ix2 n e) = ix2 n 0 := by
    funext a
    match a with
    | ⟨0, _⟩ => rfl
    | ⟨1, _⟩ => rfl
  have h0 : idx_main_call2_v0 (ix2 n 0) = ix1 n := by
    funext a
    match a with
    | ⟨0, _⟩ => rfl
  have h16 : idx_main_v16 (ix1 n) = ix2 ⟨n.val / 8, by omega⟩ ⟨n.val % 8, by omega⟩ := by
    funext a
    match a with
    | ⟨0, _⟩ => rfl
    | ⟨1, _⟩ => rfl
  have h3 : val_main_call2_v3 (F := Ideal) (ix2 n e) = BitVec.ofNat 32 e.val := by
    rw [val_main_call2_v3_apply, val_main_call2_v1_apply]
  rw [val_main_v17_apply, val_main_call2_v4_apply, val_main_call2_v2_apply, h2, val_main_call2_v0_apply, h0, val_main_v16_apply, h16,
    experts x0 x1 hL hlog, h3]
  exact hot_word _ _

/-- How many tokens chose an expert. -/
theorem counts_at (e : Fin 256) : val_main_v18 (F := Ideal) x0 x1 (ix1 e) = ((∑ t, mark (L t) e : ℝ) : EReal) := by
  have hz : val_main_cst_4 (F := Ideal) (Shape.Idx.first h_S_) = 0 := Ideal.ofBits_zero_f32
  have h18 : ∀ n : Fin 65536, val_main_v17 (F := Ideal) x0 x1 (idx_main_v18 (ix1 e) n)
      = ((if nth (L ⟨n.val / 8, by omega⟩) (n.val % 8) = e then (1 : ℝ) else 0 : ℝ) : EReal) := by
    intro n
    have hi : idx_main_v18 (ix1 e) n = ix2 n e := by
      funext a
      match a with
      | ⟨0, _⟩ => rfl
      | ⟨1, _⟩ => rfl
    rw [hi]
    exact hot_at x0 x1 hL hlog n e
  rw [val_main_v18_apply, hz, zero_add, Finset.sum_congr rfl fun n _ => h18 n, ← coe_sum]
  refine congrArg _ ((sum_choices fun t k => if nth (L t) k.val = e then (1 : ℝ) else 0).trans ?_)
  exact Finset.sum_congr rfl fun t _ => sum_hot (hL t) e

omit hL

/-- The number the softmax takes off a row. -/
theorem shift_at (t : Fin 8192) : ∃ M : ℝ, val_main_v23 (F := Ideal) x0 x1 (ix1 t) = (M : EReal) := by
  have hred : S8192x256.Reduces [1] S8192 := by decide
  have h22 : val_main_v22 (F := Ideal) (ix1 t) = ⊥ := bottom_f32
  have hb : val_main_cst_6 (F := Ideal) (Shape.Idx.first h_S_) = ⊥ := bottom_f32
  have hl : ∀ e : Fin 256, hred.lift (ix1 t) e = ix2 t e := by
    intro e
    funext a
    match a with
    | ⟨0, _⟩ => rfl
    | ⟨1, _⟩ => rfl
  have h21 : val_main_v21 (F := Ideal) x0 x1 (ix1 t) = (Finset.univ : Finset (Fin 256)).fold max ⊥ fun e => (L t e : EReal) := by
    unfold val_main_v21
    refine (Host.reduce_eq_fold_single _ _ _ reducesTo_S8192x256_S8192_d1 hred h_S_ (ix1 t)).trans ?_
    rw [hb]
    have hf : (val_main_v1 (F := Ideal) x0 x1 ∘ hred.lift (ix1 t) : Fin 256 → EReal) = fun e => (L t e : EReal) :=
      funext fun e => (congrArg _ (hl e)).trans (hlog t e)
    exact congrArg (fun f => (Finset.univ : Finset (Fin 256)).fold max ⊥ f) hf
  obtain ⟨r, hr⟩ := fold_real (L t) (b := ⊥) bot_lt_top
  refine ⟨r, ?_⟩
  rw [val_main_v23_apply, h22, h21, hr]
  exact max_eq_right bot_le

theorem softmax_at (t : Fin 8192) (e : Fin 256) : val_main_v31 (F := Ideal) x0 x1 (ix2 t e) = (prob (L t) e : EReal) := by
  obtain ⟨M, hM⟩ := shift_at x0 x1 hlog t
  have h25 : ∀ e : Fin 256, idx_main_v25 (ix2 t e) = ix2 t 0 := by
    intro e
    funext a
    match a with
    | ⟨0, _⟩ => rfl
    | ⟨1, _⟩ => rfl
  have h24 : idx_main_v24 (ix2 t 0) = ix1 t := by
    funext a
    match a with
    | ⟨0, _⟩ => rfl
  have h30 : idx_main_v30 (ix2 t e) = ix2 t 0 := by
    funext a
    match a with
    | ⟨0, _⟩ => rfl
    | ⟨1, _⟩ => rfl
  have h29 : idx_main_v29 (ix2 t 0) = ix1 t := by
    funext a
    match a with
    | ⟨0, _⟩ => rfl
  have h28 : ∀ e : Fin 256, idx_main_v28 (ix1 t) e = ix2 t e := by
    intro e
    funext a
    match a with
    | ⟨0, _⟩ => rfl
    | ⟨1, _⟩ => rfl
  have h27 : ∀ e : Fin 256, val_main_v27 (F := Ideal) x0 x1 (ix2 t e) = ((Real.exp (L t e - M) : ℝ) : EReal) := by
    intro e
    rw [val_main_v27_apply, val_main_v26_apply, val_main_v25_apply, h25, val_main_v24_apply, h24, hM, hlog, Ideal.subf_def,
      Ideal.hostUnary_exp_def, ← EReal.coe_sub, Ideal.exp_coe]
  have hz : val_main_cst_8 (F := Ideal) (Shape.Idx.first h_S_) = 0 := Ideal.ofBits_zero_f32
  have hall : ∀ e : Fin 256, val_main_v27 (F := Ideal) x0 x1 (idx_main_v28 (ix1 t) e) = ((Real.exp (L t e - M) : ℝ) : EReal) := by
    intro e
    rw [h28]
    exact h27 e
  rw [val_main_v31_apply, val_main_v30_apply, h30, val_main_v29_apply, h29, val_main_v28_apply, hz, zero_add,
    Finset.sum_congr rfl fun e _ => hall e, ← coe_sum, h27, Ideal.hostDivf_def,
    Ideal.div_coe (sum_exp_pos fun e => L t e - M).ne', ← EReal.coe_mul, prob_shift]

theorem probs_at (e : Fin 256) : val_main_v32 (F := Ideal) x0 x1 (ix1 e) = ((∑ t, prob (L t) e : ℝ) : EReal) := by
  have hz : val_main_cst_9 (F := Ideal) (Shape.Idx.first h_S_) = 0 := Ideal.ofBits_zero_f32
  have hall : ∀ t : Fin 8192, val_main_v31 (F := Ideal) x0 x1 (idx_main_v32 (ix1 e) t) = (prob (L t) e : EReal) := by
    intro t
    have hi : idx_main_v32 (ix1 e) t = ix2 t e := by
      funext a
      match a with
      | ⟨0, _⟩ => rfl
      | ⟨1, _⟩ => rfl
    rw [hi]
    exact softmax_at x0 x1 hlog t e
  rw [val_main_v32_apply, hz, zero_add, Finset.sum_congr rfl fun t _ => hall t, ← coe_sum]

include hL

/-- The reference's loss. -/
theorem loss_value (i : S_.Idx) : val_main_v37 (F := Ideal) x0 x1 i = Cert.Arrays.loss L := by
  have hz : val_main_cst_11 (F := Ideal) (Shape.Idx.first h_S_) = 0 := Ideal.ofBits_zero_f32
  have h19 : ∀ e : Fin 256, val_main_v19 (F := Ideal) (ix1 e) = Ideal.ofBits .f32 0x46000000#32 * Ideal.ofBits .f32 0x41000000#32 := by
    intro e
    refine Eq.trans (b := Ideal.ofBits .f32 0x47800000#32) rfl ?_
    rw [tokens_f32, eight_f32, choices_f32, ← EReal.coe_mul]
    norm_num
  have h33 : ∀ e : Fin 256, val_main_v33 (F := Ideal) (ix1 e) = Ideal.ofBits .f32 0x46000000#32 := fun e => rfl
  have h12 : val_main_cst_12 (F := Ideal) i = Ideal.ofBits .f32 0x3A83126F#32 := rfl
  have h35 : ∀ e : Fin 256, val_main_v35 (F := Ideal) x0 x1 (ix1 e)
      = Ideal.div ((∑ t, mark (L t) e : ℝ) : EReal) (Ideal.ofBits .f32 0x46000000#32 * Ideal.ofBits .f32 0x41000000#32)
        * Ideal.div ((∑ t, prob (L t) e : ℝ) : EReal) (Ideal.ofBits .f32 0x46000000#32) := by
    intro e
    rw [val_main_v35_apply, val_main_v20_apply, val_main_v34_apply, counts_at x0 x1 hL hlog, probs_at x0 x1 hlog, h19, h33,
      Ideal.mulf_def, Ideal.hostDivf_def, Ideal.hostDivf_def]
  have hsum : ∑ j : S256.Idx, val_main_v35 (F := Ideal) x0 x1 j = ∑ e : Fin 256, val_main_v35 (F := Ideal) x0 x1 (ix1 e) := by
    refine (Function.Bijective.sum_comp (e := fun e : Fin 256 => (ix1 e : S256.Idx)) ⟨fun e e' h => ?_, fun j => ?_⟩ _).symm
    · exact congrFun h 0
    · exact ⟨j 0, (eq_ix1 j).symm⟩
  rw [val_main_v37_apply, val_main_v36_apply, hz, zero_add, h12, hsum, Finset.sum_congr rfl fun e _ => h35 e, Ideal.mulf_def]
  rfl

end Cert.RefLoss

end
-- ==== Proof.Algebraic.lean ====
/- The value claim: where the logits are numbers and those of a token differ, kernel and reference name the same experts, give them the
   same weights and report the same loss. -/
module

public import proofs.«01_k».proof.Defs
public import proofs.«01_k».proof.Proof.Gen.Pre_separated
public import proofs.«01_k».proof.Proof.Logits
public import proofs.«01_k».proof.Proof.RefLoss

@[expose] public section

noncomputable section

namespace Cert.Proof

open Idealize.ShloMosaic Idealize.ShloMosaic.ValueIdx Idealize.SL.Sem
open Cert.Weights Cert.Arrays Cert.Logits Cert.ReferenceIdeal.Read

/-! ## The reference's results as arrays -/

section Reference

variable (x0 : Cert.RefPick.Hid) (x1 : Cert.RefPick.Wgt) {L : Fin 8192 → Fin 256 → ℝ} (hL : ∀ t, Function.Injective (L t))
  (hlog : ∀ t e, logit x0 x1 t e = (L t e : EReal))

include hL hlog

theorem reference_indices : val_main_v9 (F := Ideal) x0 x1 = indices L := by
  funext i
  rw [eq_ix2 i]
  exact Cert.RefPick.experts x0 x1 hL (fun t e => (reference_logit x0 x1 t e).trans (hlog t e)) (i 0) (i 1)

theorem reference_weights : val_main_v15 (F := Ideal) x0 x1 = weights L := by
  funext i
  rw [eq_ix2 i]
  exact Cert.RefPick.weights_at x0 x1 hL (fun t e => (reference_logit x0 x1 t e).trans (hlog t e)) (i 0) (i 1)

theorem reference_loss : val_main_v37 (F := Ideal) x0 x1 = fun _ => loss L :=
  funext fun i => Cert.RefLoss.loss_value x0 x1 hL (fun t e => (reference_logit x0 x1 t e).trans (hlog t e)) i

end Reference

/-! ## The two runs -/

/-- What the kernel's run leaves. -/
theorem kernel_run (m : (ℓ : Loc Cert.KernelIdeal.nD Cert.KernelIdeal.τ Cert.KernelIdeal.sig) → Buf (Elt Ideal) ℓ)
    (g : Dev Cert.KernelIdeal.nD → PrngReg) {L : Dev Cert.KernelIdeal.nD → Fin 8192 → Fin 256 → ℝ}
    (hL : ∀ c t, Function.Injective (L c t)) (hlog : ∀ c t e, logit (hid m c) (wgt m c) t e = (L c t e : EReal)) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v6_0) = indices (L c)
        ∧ r.2.mem ((c.tc : Thread Cert.KernelIdeal.nD Cert.KernelIdeal.τ).loc Cert.KernelIdeal.main_v6_1) = weights (L c)
        ∧ r.2.mem ((c.tc : Thread Cert.KernelIdeal.nD Cert.KernelIdeal.τ).loc Cert.KernelIdeal.main_v6_2) = (fun _ => loss (L c))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1) := by
  refine (θ_run Cert.KernelIdeal.defs _ _).mono (fun r h c => ?_) (Cert.KernelIdeal.Gen.run_main m g)
  exact ⟨((h c).1 2).trans (indices_array m c (hL c) (hlog c)), ((h c).1 3).trans (weights_array m c (hL c) (hlog c)),
    ((h c).2 Cert.KernelIdeal.main_v6_2 (Pipeline.mem_restRefs_of Cert.KernelIdeal.main_v6_2 (by decide) (by decide))).trans
      (loss_result m c (hL c) (hlog c)),
    ((h c).1 0).trans (((Cert.KernelIdeal.Gen.dats m 0 c).arrAt_in 0 rfl _).trans
      ((Cert.KernelIdeal.Gen.A_eq m c 0).trans (Cert.KernelIdeal.Gen.V_main_arg0 m c))),
    ((h c).2 Cert.KernelIdeal.main_arg1 (Pipeline.mem_restRefs_of Cert.KernelIdeal.main_arg1 (by decide) (by decide))).trans
      (Cert.KernelIdeal.Gen.W_main_arg1 m (Cert.KernelIdeal.Gen.dats m) c)⟩

/-- What the reference's run leaves. -/
theorem reference_run (m : (ℓ : Loc Cert.ReferenceIdeal.nD Cert.ReferenceIdeal.τ Cert.ReferenceIdeal.sig) → Buf (Elt Ideal) ℓ)
    (g : Dev Cert.ReferenceIdeal.nD → PrngReg) {L : Dev Cert.ReferenceIdeal.nD → Fin 8192 → Fin 256 → ℝ}
    (hL : ∀ c t, Function.Injective (L c t))
    (hlog : ∀ (c : Dev Cert.ReferenceIdeal.nD) t e, logit (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1)) t e = (L c t e : EReal)) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v9) = indices (L c)
        ∧ r.2.mem ((c.tc : Thread Cert.ReferenceIdeal.nD Cert.ReferenceIdeal.τ).loc Cert.ReferenceIdeal.main_v15) = weights (L c)
        ∧ r.2.mem ((c.tc : Thread Cert.ReferenceIdeal.nD Cert.ReferenceIdeal.τ).loc Cert.ReferenceIdeal.main_v37) = (fun _ => loss (L c))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) := by
  refine (θ_run Cert.ReferenceIdeal.defs _ _).mono (fun r h c => ?_) (Cert.ReferenceIdeal.Value.run (F := Ideal) m g)
  obtain ⟨h9, h15, h37, hargs⟩ := h c
  exact ⟨(h9.trans (val_main_v9_eq m c)).trans (reference_indices _ _ (hL c) (hlog c)),
    (h15.trans (val_main_v15_eq _ _)).trans (reference_weights _ _ (hL c) (hlog c)),
    (h37.trans (val_main_v37_eq m c)).trans (reference_loss _ _ (hL c) (hlog c)), hargs⟩

/-! ## The claim -/

/-- Kernel and reference agree in all three results. -/
theorem algebraic [Cert.Pre_separated.Facts] : Cert.algebraic_KernelIdeal_ReferenceIdeal_pre_separated := by
  intro m g m' g' hpre hagree
  have hlog : ∀ (c : Dev Cert.KernelIdeal.nD) t e, logit (hid m c) (wgt m c) t e = (real (hid m c) (wgt m c) t e : EReal) :=
    fun c => real_eq _ _ (hpre c)
  have hL : ∀ (c : Dev Cert.KernelIdeal.nD) t, Function.Injective (real (hid m c) (wgt m c) t) := fun c => real_inj _ _ (hpre c)
  refine ⟨fun c => indices (real (hid m c) (wgt m c)), fun c => weights (real (hid m c) (wgt m c)),
    fun c => (fun _ => loss (real (hid m c) (wgt m c)) : Cert.KernelIdeal.S_.Idx → EReal), kernel_run m g hL hlog, ?_⟩
  refine reference_run m' g' (L := fun c : Dev Cert.KernelIdeal.nD => real (hid m c) (wgt m c)) hL fun c t e => ?_
  rw [(hagree c).1, (hagree c).2]
  exact hlog c t e

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.Pre_separated
public import proofs.«01_k».proof.Proof.Frames
public import proofs.«01_k».proof.Proof.Algebraic

@[expose] public section

noncomputable section

namespace Cert.Proof

/-- Every claim of this certificate. -/
theorem claim : Cert.Claim :=
  ⟨Cert.Kernel.Gen.facts, Cert.KernelIdeal.Gen.facts, Cert.ReferenceIdeal.Gen.facts, Cert.Pre_separated.Gen.facts,
    frame_kernel, frame_kernelIdeal, fun m ρ _ => frame_kernelIdeal m ρ trivial, frame_referenceIdeal, fun m ρ _ => frame_referenceIdeal m ρ trivial,
    preserves, algebraic⟩

end Cert.Proof

end
